-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x2048x16384 : Shape := ⟨3, ![2, 2048, 16384]⟩
abbrev S2x2x16384x256 : Shape := ⟨4, ![2, 2, 16384, 256]⟩
abbrev S2x2x256x256 : Shape := ⟨4, ![2, 2, 256, 256]⟩
abbrev S2x128x16384 : Shape := ⟨3, ![2, 128, 16384]⟩
abbrev S2x128x256 : Shape := ⟨3, ![2, 128, 256]⟩
abbrev S2x16384x8192 : Shape := ⟨3, ![2, 16384, 8192]⟩
abbrev S_ : Shape := ⟨0, ![]⟩

class Facts : Prop where
  bcast_S_S2x2048x16384 : S_.BroadcastsInDim S2x2048x16384 (![] : Fin 0 → Fin S2x2048x16384.rank)
  bcast_S_S2x2x16384x256 : S_.BroadcastsInDim S2x2x16384x256 (![] : Fin 0 → Fin S2x2x16384x256.rank)
  bcast_S_S2x2x256x256 : S_.BroadcastsInDim S2x2x256x256 (![] : Fin 0 → Fin S2x2x256x256.rank)

variable [Facts]

def fn {F : FTy → Type} [FloatOps F] (main_arg0 : FVec F S2x2048x16384 .f32) (main_arg1 : FVec F S2x2x16384x256 .f32) (main_arg2 : FVec F S2x2x256x256 .f32) (main_arg3 : FVec F S2x128x16384 .bf16) (main_arg4 : FVec F S2x128x256 .bf16) (main_arg5 : FVec F S2x16384x8192 .bf16) : IVec S2x2048x16384 1 × IVec S2x2x16384x256 1 × IVec S2x2x256x256 1 :=
  let main_v0 : FVec F S2x2048x16384 .f32 := Host.absf main_arg0
  let main_cst : FVec F S_ .f32 := constant S_ .f32 0x7F800000#32
  let main_v1 : FVec F S2x2048x16384 .f32 := broadcastInDim S2x2048x16384 ![] bcast_S_S2x2048x16384 main_cst
  let main_v2 : IVec S2x2048x16384 1 := cmpf .olt main_v0 main_v1
  let main_v3 : FVec F S2x2x16384x256 .f32 := Host.absf main_arg1
  let main_cst_0 : FVec F S_ .f32 := constant S_ .f32 0x7F800000#32
  let main_v4 : FVec F S2x2x16384x256 .f32 := broadcastInDim S2x2x16384x256 ![] bcast_S_S2x2x16384x256 main_cst_0
  let main_v5 : IVec S2x2x16384x256 1 := cmpf .olt main_v3 main_v4
  let main_v6 : FVec F S2x2x256x256 .f32 := Host.absf main_arg2
  let main_cst_1 : FVec F S_ .f32 := constant S_ .f32 0x7F800000#32
  let main_v7 : FVec F S2x2x256x256 .f32 := broadcastInDim S2x2x256x256 ![] bcast_S_S2x2x256x256 main_cst_1
  let main_v8 : IVec S2x2x256x256 1 := cmpf .olt main_v6 main_v7
  (main_v2, main_v5, main_v8)
-- ==== Kernel.lean ====
abbrev S2x2048x16384 : Shape := ⟨3, ![2, 2048, 16384]⟩
abbrev S2x2x16384x256 : Shape := ⟨4, ![2, 2, 16384, 256]⟩
abbrev S2x2x256x256 : Shape := ⟨4, ![2, 2, 256, 256]⟩
abbrev S2x128x16384 : Shape := ⟨3, ![2, 128, 16384]⟩
abbrev S2x128x256 : Shape := ⟨3, ![2, 128, 256]⟩
abbrev S2x16384x8192 : Shape := ⟨3, ![2, 16384, 8192]⟩
abbrev S2x2x16640x256 : Shape := ⟨4, ![2, 2, 16640, 256]⟩
abbrev S2x128x16640 : Shape := ⟨3, ![2, 128, 16640]⟩
abbrev S2x16384x512 : Shape := ⟨3, ![2, 16384, 512]⟩
abbrev S1x1024x512 : Shape := ⟨3, ![1, 1024, 512]⟩
abbrev S1x1x16640x256 : Shape := ⟨4, ![1, 1, 16640, 256]⟩
abbrev S1x64x16640 : Shape := ⟨3, ![1, 64, 16640]⟩
abbrev S1x512x256 : Shape := ⟨3, ![1, 512, 256]⟩
abbrev S4x1x512 : Shape := ⟨3, ![4, 1, 512]⟩
abbrev S2x4x1x512 : Shape := ⟨4, ![2, 4, 1, 512]⟩
abbrev S4x80x512 : Shape := ⟨3, ![4, 80, 512]⟩
abbrev S2x4x1280x512 : Shape := ⟨4, ![2, 4, 1280, 512]⟩
abbrev S16x1280 : Shape := ⟨2, ![16, 1280]⟩
abbrev S1x1x1280x256 : Shape := ⟨4, ![1, 1, 1280, 256]⟩
abbrev S1280x256 : Shape := ⟨2, ![1280, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S1x1x1x256 : Shape := ⟨4, ![1, 1, 1, 256]⟩
abbrev S1x64x1280 : Shape := ⟨3, ![1, 64, 1280]⟩
abbrev S64x1280 : Shape := ⟨2, ![64, 1280]⟩
abbrev S80x1280 : Shape := ⟨2, ![80, 1280]⟩
abbrev S1x1x256 : Shape := ⟨3, ![1, 1, 256]⟩
abbrev S1x80x256 : Shape := ⟨3, ![1, 80, 256]⟩
abbrev S80x256 : Shape := ⟨2, ![80, 256]⟩
abbrev S1x64x512 : Shape := ⟨3, ![1, 64, 512]⟩
abbrev S64x512 : Shape := ⟨2, ![64, 512]⟩
abbrev S1x1x512 : Shape := ⟨3, ![1, 1, 512]⟩
abbrev S1x512 : Shape := ⟨2, ![1, 512]⟩
abbrev S256x512 : Shape := ⟨2, ![256, 512]⟩
abbrev S512x256 : Shape := ⟨2, ![512, 256]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x16384, .f32⟩
  | .hbm, ⟨1, _⟩ => ⟨S2x2x16384x256, .f32⟩
  | .hbm, ⟨2, _⟩ => ⟨S2x2x256x256, .f32⟩
  | .hbm, ⟨3, _⟩ => ⟨S2x128x16384, .bf16⟩
  | .hbm, ⟨4, _⟩ => ⟨S2x128x256, .bf16⟩
  | .hbm, ⟨5, _⟩ => ⟨S2x16384x8192, .bf16⟩
  | .hbm, ⟨6, _⟩ => ⟨S2x2x16384x256, .fp8e4m3⟩
  | .hbm, ⟨7, _⟩ => ⟨S2x2x256x256, .fp8e4m3⟩
  | .hbm, ⟨8, _⟩ => ⟨S2x2x16640x256, .fp8e4m3⟩
  | .hbm, ⟨9, _⟩ => ⟨S2x128x16640, .bf16⟩
  | .hbm, ⟨10, _⟩ => ⟨S2x2048x16384, .fp8e4m3⟩
  | .hbm, ⟨11, _⟩ => ⟨S2x16384x512, .bf16⟩
  | .local _ .vmem, ⟨0, _⟩ => ⟨S1x1024x512, .fp8e4m3⟩
  | .local _ .vmem, ⟨1, _⟩ => ⟨S1x1024x512, .fp8e4m3⟩
  | .local _ .vmem, ⟨2, _⟩ => ⟨S1x1x16640x256, .fp8e4m3⟩
  | .local _ .vmem, ⟨3, _⟩ => ⟨S1x64x16640, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S4x1x512, .f32⟩
  | .local _ .vmem, ⟨9, _⟩ => ⟨S2x4x1x512, .f32⟩
  | .local _ .vmem, ⟨10, _⟩ => ⟨S4x80x512, .f32⟩
  | .local _ .vmem, ⟨11, _⟩ => ⟨S2x4x1280x512, .f32⟩
  | _, _ => ⟨S2x2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32 : BitVec 32 := 0#32
  let c6_i32 : BitVec 32 := 6#32
  let v99 : BitVec 32 := Scalar.addi c0_i32 c6_i32
  let c1_i32 : BitVec 32 := 1#32
  ⟨c0_i32, v99, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v435 : BitVec 32 := Scalar.muli c2_i32 arg12
  let c0_i32_420 : BitVec 32 := 0#32
  let v436 : BitVec 32 := Scalar.addi v435 c0_i32_420
  let c1_i32_421 : BitVec 32 := 1#32
  let v437 : BitVec 32 := Scalar.addi v436 c1_i32_421
  let c12_i32 : BitVec 32 := 12#32
  let v438 : BitVec 32 := Scalar.minsi v437 c12_i32
  let c1280_i32 : BitVec 32 := 1280#32
  let v439 : BitVec 32 := Scalar.muli v438 c1280_i32
  v439
def k0_off1 (k0_t1 : Fin k0_t1_loop.trips) (c0_i32_420 : BitVec 32) : Fin 4 → Nat :=
  let c0_422 : Index := 0#32
  let c0_423 : Index := 0#32
  let c2_i32 : BitVec 32 := 2#32
  let c0_i32 : BitVec 32 := 0#32
  let c1_i32 : BitVec 32 := 1#32
  let arg12 : BitVec 32 := Scf.iv c0_i32 c1_i32 k0_t1
  let v435 : BitVec 32 := Scalar.muli c2_i32 arg12
  let v436 : BitVec 32 := Scalar.addi v435 c0_i32_420
  let c1_i32_421 : BitVec 32 := 1#32
  let v437 : BitVec 32 := Scalar.addi v436 c1_i32_421
  let c12_i32 : BitVec 32 := 12#32
  let v438 : BitVec 32 := Scalar.minsi v437 c12_i32
  let c1280_i32 : BitVec 32 := 1280#32
  let v439 : BitVec 32 := Scalar.muli v438 c1280_i32
  let v440 : BitVec 32 := v439
  let v441 : Index := Scalar.indexCast v440
  let c0_424 : Index := 0#32
  ![0, 0, v441.toNat, 0]
def k0_mult2 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v435 : BitVec 32 := Scalar.muli c2_i32 arg12
  let c0_i32_420 : BitVec 32 := 0#32
  let v436 : BitVec 32 := Scalar.addi v435 c0_i32_420
  let c1280_i32_425 : BitVec 32 := 1280#32
  let v444 : BitVec 32 := Scalar.muli v436 c1280_i32_425
  v444
def k0_off2 (k0_t1 : Fin k0_t1_loop.trips) (c0_i32_420 : BitVec 32) : Fin 3 → Nat :=
  let c0_426 : Index := 0#32
  let c0_427 : Index := 0#32
  let c2_i32 : BitVec 32 := 2#32
  let c0_i32 : BitVec 32 := 0#32
  let c1_i32 : BitVec 32 := 1#32
  let arg12 : BitVec 32 := Scf.iv c0_i32 c1_i32 k0_t1
  let v435 : BitVec 32 := Scalar.muli c2_i32 arg12
  let v436 : BitVec 32 := Scalar.addi v435 c0_i32_420
  let c1280_i32_425 : BitVec 32 := 1280#32
  let v444 : BitVec 32 := Scalar.muli v436 c1280_i32_425
  let v445 : BitVec 32 := v444
  let v446 : Index := Scalar.indexCast v445
  ![0, 0, v446.toNat]
def k0_mult3 (k0_t1 : Fin k0_t1_loop.trips) : BitVec 32 :=
  let c2_i32_700 : BitVec 32 := 2#32
  let c0_i32 : BitVec 32 := 0#32
  let c1_i32 : BitVec 32 := 1#32
  let arg12 : BitVec 32 := Scf.iv c0_i32 c1_i32 k0_t1
  let v738 : BitVec 32 := Scalar.muli c2_i32_700 arg12
  let c1_i32_701 : BitVec 32 := 1#32
  let v739 : BitVec 32 := Scalar.addi v738 c1_i32_701
  let c1_i32_702 : BitVec 32 := 1#32
  let v740 : BitVec 32 := Scalar.addi v739 c1_i32_702
  let c12_i32_703 : BitVec 32 := 12#32
  let v741 : BitVec 32 := Scalar.minsi v740 c12_i32_703
  let c1280_i32_704 : BitVec 32 := 1280#32
  let v742 : BitVec 32 := Scalar.muli v741 c1280_i32_704
  v742
def k0_mult4 (k0_t1 : Fin k0_t1_loop.trips) : BitVec 32 :=
  let c2_i32_700 : BitVec 32 := 2#32
  let c0_i32 : BitVec 32 := 0#32
  let c1_i32 : BitVec 32 := 1#32
  let arg12 : BitVec 32 := Scf.iv c0_i32 c1_i32 k0_t1
  let v738 : BitVec 32 := Scalar.muli c2_i32_700 arg12
  let c1_i32_701 : BitVec 32 := 1#32
  let v739 : BitVec 32 := Scalar.addi v738 c1_i32_701
  let c1280_i32_708 : BitVec 32 := 1280#32
  let v747 : BitVec 32 := Scalar.muli v739 c1280_i32_708
  v747
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x16640x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x64x16640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x2048x16384 : Shape := ⟨3, ![2, 2048, 16384]⟩
abbrev S2x2x16384x256 : Shape := ⟨4, ![2, 2, 16384, 256]⟩
abbrev S2x2x256x256 : Shape := ⟨4, ![2, 2, 256, 256]⟩
abbrev S2x128x16384 : Shape := ⟨3, ![2, 128, 16384]⟩
abbrev S2x128x256 : Shape := ⟨3, ![2, 128, 256]⟩
abbrev S2x16384x8192 : Shape := ⟨3, ![2, 16384, 8192]⟩
abbrev S2x2x4x256x16384 : Shape := ⟨5, ![2, 2, 4, 256, 16384]⟩
abbrev S2x2x16640x256 : Shape := ⟨4, ![2, 2, 16640, 256]⟩
abbrev S2x128x16640 : Shape := ⟨3, ![2, 128, 16640]⟩
abbrev S2x2x64x16640 : Shape := ⟨4, ![2, 2, 64, 16640]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x2x4x64 : Shape := ⟨5, ![2, 16384, 2, 4, 64]⟩
abbrev S2x16384x512 : Shape := ⟨3, ![2, 16384, 512]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x16384, .f32⟩
  | .hbm, ⟨1, _⟩ => ⟨S2x2x16384x256, .f32⟩
  | .hbm, ⟨2, _⟩ => ⟨S2x2x256x256, .f32⟩
  | .hbm, ⟨3, _⟩ => ⟨S2x128x16384, .bf16⟩
  | .hbm, ⟨4, _⟩ => ⟨S2x128x256, .bf16⟩
  | .hbm, ⟨5, _⟩ => ⟨S2x16384x8192, .bf16⟩
  | .hbm, ⟨6, _⟩ => ⟨S2x2x4x256x16384, .f32⟩
  | .hbm, ⟨7, _⟩ => ⟨S2x2x16640x256, .f32⟩
  | .hbm, ⟨8, _⟩ => ⟨S2x128x16640, .bf16⟩
  | .hbm, ⟨9, _⟩ => ⟨S2x128x16640, .f32⟩
  | .hbm, ⟨10, _⟩ => ⟨S2x2x64x16640, .f32⟩
  | .hbm, ⟨11, _⟩ => ⟨S2x2x4x16384x16640, .f32⟩
  | .hbm, ⟨12, _⟩ => ⟨S_, .f32⟩
  | .hbm, ⟨13, _⟩ => ⟨S_, .f32⟩
  | .hbm, ⟨14, _⟩ => ⟨S2x2x4x16384x16640, .f32⟩
  | .hbm, ⟨15, _⟩ => ⟨S2x2x4x16384x16640, .f32⟩
  | .hbm, ⟨16, _⟩ => ⟨S_, .f32⟩
  | .hbm, ⟨17, _⟩ => ⟨S2x2x4x16384, .f32⟩
  | .hbm, ⟨18, _⟩ => ⟨S_, .f32⟩
  | .hbm, ⟨19, _⟩ => ⟨S2x2x4x16384, .f32⟩
  | .hbm, ⟨20, _⟩ => ⟨S2x2x4x16384, .f32⟩
  | .hbm, ⟨21, _⟩ => ⟨S2x2x4x16384x1, .f32⟩
  | .hbm, ⟨22, _⟩ => ⟨S2x2x4x16384x16640, .f32⟩
  | .hbm, ⟨23, _⟩ => ⟨S2x2x4x16384x16640, .f32⟩
  | .hbm, ⟨24, _⟩ => ⟨S2x2x4x16384x16640, .f32⟩
  | .hbm, ⟨25, _⟩ => ⟨S_, .f32⟩
  | .hbm, ⟨26, _⟩ => ⟨S2x2x4x16384, .f32⟩
  | .hbm, ⟨27, _⟩ => ⟨S2x2x4x16384x1, .f32⟩
  | .hbm, ⟨28, _⟩ => ⟨S2x2x4x16384x16640, .f32⟩
  | .hbm, ⟨29, _⟩ => ⟨S2x2x4x16384x16640, .f32⟩
  | .hbm, ⟨30, _⟩ => ⟨S2x2x64x4x16384, .f32⟩
  | .hbm, ⟨31, _⟩ => ⟨S2x16384x2x4x64, .f32⟩
  | .hbm, ⟨32, _⟩ => ⟨S2x16384x512, .f32⟩
  | .hbm, ⟨33, _⟩ => ⟨S2x16384x512, .bf16⟩
  | .hbm, ⟨34, _⟩ => ⟨S2x16384x512, .f32⟩
  | .hbm, ⟨35, _⟩ => ⟨S2x16384x512, .f32⟩
  | .hbm, ⟨36, _⟩ => ⟨S2x16384x512, .f32⟩
  | .hbm, ⟨37, _⟩ => ⟨S_, .f32⟩
  | .hbm, ⟨38, _⟩ => ⟨S2x16384x512, .f32⟩
  | .hbm, ⟨39, _⟩ => ⟨S2x16384x512, .f32⟩
  | .hbm, ⟨40, _⟩ => ⟨S_, .f32⟩
  | .hbm, ⟨41, _⟩ => ⟨S2x16384x512, .f32⟩
  | .hbm, ⟨42, _⟩ => ⟨S2x16384x512, .f32⟩
  | .hbm, ⟨43, _⟩ => ⟨S2x16384x512, .f32⟩
  | .hbm, ⟨44, _⟩ => ⟨S2x16384x512, .f32⟩
  | .hbm, ⟨45, _⟩ => ⟨S2x16384x512, .bf16⟩
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel2.lean ====
abbrev S2x16384x512 : Shape := ⟨3, ![2, 16384, 512]⟩
abbrev S2x16384x8192 : Shape := ⟨3, ![2, 16384, 8192]⟩
abbrev S2x16384x1024 : Shape := ⟨3, ![2, 16384, 1024]⟩
abbrev S2x1024 : Shape := ⟨2, ![2, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S2x1x1024 : Shape := ⟨3, ![2, 1, 1024]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1024x512 : Shape := ⟨2, ![1024, 512]⟩
abbrev S1024x1 : Shape := ⟨2, ![1024, 1]⟩

abbrev nBuf : Space → Nat
  | .hbm => 18
  | .vmem => 25
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .f32⟩
  | .hbm, ⟨3, _⟩ => ⟨S2x16384x8192, .bf16⟩
  | .hbm, ⟨4, _⟩ => ⟨S2x16384x1024, .f32⟩
  | .hbm, ⟨5, _⟩ => ⟨S2x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S2x1x1024, .f32⟩
  | .hbm, ⟨17, _⟩ => ⟨S2x16384x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024x1024, .f32⟩
  | .local _ .vmem, ⟨24, _⟩ => ⟨S1x1024x1024, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x16384x512 : Shape := ⟨3, ![2, 16384, 512]⟩
abbrev S2x16384x8192 : Shape := ⟨3, ![2, 16384, 8192]⟩
abbrev S2x16384x1024 : Shape := ⟨3, ![2, 16384, 1024]⟩
abbrev S2x1024 : Shape := ⟨2, ![2, 1024]⟩
abbrev S512x1024 : Shape := ⟨2, ![512, 1024]⟩
abbrev S1024x1024 : Shape := ⟨2, ![1024, 1024]⟩
abbrev S1024 : Shape := ⟨1, ![1024]⟩
abbrev S2x16384x3072 : Shape := ⟨3, ![2, 16384, 3072]⟩
abbrev S_ : Shape := ⟨0, ![]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x512, .f32⟩
  | .hbm, ⟨3, _⟩ => ⟨S2x16384x8192, .bf16⟩
  | .hbm, ⟨4, _⟩ => ⟨S2x16384x1024, .f32⟩
  | .hbm, ⟨5, _⟩ => ⟨S2x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S2x16384x512, .bf16⟩
  | .hbm, ⟨12, _⟩ => ⟨S2x16384x512, .f32⟩
  | .hbm, ⟨13, _⟩ => ⟨S2x16384x3072, .bf16⟩
  | .hbm, ⟨14, _⟩ => ⟨S2x16384x512, .f32⟩
  | .hbm, ⟨15, _⟩ => ⟨S2x16384x512, .f32⟩
  | .hbm, ⟨16, _⟩ => ⟨S_, .f32⟩
  | .hbm, ⟨17, _⟩ => ⟨S2x16384x512, .f32⟩
  | .hbm, ⟨18, _⟩ => ⟨S2x16384x512, .f32⟩
  | .hbm, ⟨19, _⟩ => ⟨S_, .f32⟩
  | .hbm, ⟨20, _⟩ => ⟨S2x16384x512, .f32⟩
  | .hbm, ⟨21, _⟩ => ⟨S2x16384x512, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x3072, .f32⟩
  | .hbm, ⟨27, _⟩ => ⟨S2x16384x3072, .f32⟩
  | .hbm, ⟨28, _⟩ => ⟨S2x16384x3072, .f32⟩
  | .hbm, ⟨29, _⟩ => ⟨S_, .f32⟩
  | .hbm, ⟨30, _⟩ => ⟨S2x16384x3072, .f32⟩
  | .hbm, ⟨31, _⟩ => ⟨S2x16384x3072, .f32⟩
  | .hbm, ⟨32, _⟩ => ⟨S_, .f32⟩
  | .hbm, ⟨33, _⟩ => ⟨S2x16384x3072, .f32⟩
  | .hbm, ⟨34, _⟩ => ⟨S2x16384x3072, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S2x1x1024, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S_, .f32⟩
  | .hbm, ⟨53, _⟩ => ⟨S2x16384, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S_, .f32⟩
  | .hbm, ⟨59, _⟩ => ⟨S2x16384x1, .f32⟩
  | .hbm, ⟨60, _⟩ => ⟨S2x16384x1, .f32⟩
  | .hbm, ⟨61, _⟩ => ⟨S2x16384x1, .f32⟩
  | .hbm, ⟨62, _⟩ => ⟨S2x16384x1024, .f32⟩
  | .hbm, ⟨63, _⟩ => ⟨S2x16384x1024, .f32⟩
  | .hbm, ⟨64, _⟩ => ⟨S1x1x1024, .f32⟩
  | .hbm, ⟨65, _⟩ => ⟨S2x16384x1024, .f32⟩
  | .hbm, ⟨66, _⟩ => ⟨S2x16384x1024, .f32⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x1024 : Shape := ⟨2, ![2, 1024]⟩
abbrev S1024x7968 : Shape := ⟨2, ![1024, 7968]⟩
abbrev S2x1x1024 : Shape := ⟨3, ![2, 1, 1024]⟩
abbrev S1024x256 : Shape := ⟨2, ![1024, 256]⟩
abbrev S1024x512 : Shape := ⟨2, ![1024, 512]⟩
abbrev S1024x16 : Shape := ⟨2, ![1024, 16]⟩
abbrev S1024x128 : Shape := ⟨2, ![1024, 128]⟩
abbrev S1024x1536 : Shape := ⟨2, ![1024, 1536]⟩
abbrev S1024x3072 : Shape := ⟨2, ![1024, 3072]⟩
abbrev S1024x32 : Shape := ⟨2, ![1024, 32]⟩
abbrev S_ : Shape := ⟨0, ![]⟩
abbrev S1024x8192 : Shape := ⟨2, ![1024, 8192]⟩
abbrev S2x16384x8192 : Shape := ⟨3, ![2, 16384, 8192]⟩
abbrev S1x1024x1024 : Shape := ⟨3, ![1, 1024, 1024]⟩
abbrev S1x1x1024 : Shape := ⟨3, ![1, 1, 1024]⟩
abbrev S1024x2048 : Shape := ⟨2, ![1024, 2048]⟩
abbrev S1x1024x2048 : Shape := ⟨3, ![1, 1024, 2048]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1024x128 : Shape := ⟨3, ![1, 1024, 128]⟩

abbrev nBuf : Space → Nat
  | .hbm => 28
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x7968, .f32⟩
  | .hbm, ⟨4, _⟩ => ⟨S2x1x1024, .f32⟩
  | .hbm, ⟨5, _⟩ => ⟨S2x1x1024, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x512, .f32⟩
  | .hbm, ⟨10, _⟩ => ⟨S1024x16, .f32⟩
  | .hbm, ⟨11, _⟩ => ⟨S1024x16, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x512, .f32⟩
  | .hbm, ⟨16, _⟩ => ⟨S1024x1536, .f32⟩
  | .hbm, ⟨17, _⟩ => ⟨S1024x512, .f32⟩
  | .hbm, ⟨18, _⟩ => ⟨S1024x3072, .f32⟩
  | .hbm, ⟨19, _⟩ => ⟨S1024x32, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x8192, .f32⟩
  | .hbm, ⟨26, _⟩ => ⟨S1024x8192, .bf16⟩
  | .hbm, ⟨27, _⟩ => ⟨S2x16384x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S1024x2048, .bf16⟩
  | .local _ .vmem, ⟨8, _⟩ => ⟨S1x1024x2048, .bf16⟩
  | .local _ .vmem, ⟨9, _⟩ => ⟨S1x1024x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S2x16384x1024 : Shape := ⟨3, ![2, 16384, 1024]⟩
abbrev S2x1024 : Shape := ⟨2, ![2, 1024]⟩
abbrev S1024x7968 : Shape := ⟨2, ![1024, 7968]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x16384x7968 : Shape := ⟨3, ![2, 16384, 7968]⟩
abbrev S2x16384x256 : Shape := ⟨3, ![2, 16384, 256]⟩
abbrev S2x16384x512 : Shape := ⟨3, ![2, 16384, 512]⟩
abbrev S2x16384x16 : Shape := ⟨3, ![2, 16384, 16]⟩
abbrev S2x16384x128 : Shape := ⟨3, ![2, 16384, 128]⟩
abbrev S2x16384x1536 : Shape := ⟨3, ![2, 16384, 1536]⟩
abbrev S2x16384x3072 : Shape := ⟨3, ![2, 16384, 3072]⟩
abbrev S2x16384x96 : Shape := ⟨3, ![2, 16384, 96]⟩
abbrev S2x16384x8192 : Shape := ⟨3, ![2, 16384, 8192]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024x7968, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x16384x1024, .f32⟩
  | .hbm, ⟨22, _⟩ => ⟨S2x16384x1024, .f32⟩
  | .hbm, ⟨23, _⟩ => ⟨S2x1x1024, .f32⟩
  | .hbm, ⟨24, _⟩ => ⟨S2x16384x1024, .f32⟩
  | .hbm, ⟨25, _⟩ => ⟨S2x16384x1024, .f32⟩
  | .hbm, ⟨26, _⟩ => ⟨S2x16384x7968, .f32⟩
  | .hbm, ⟨27, _⟩ => ⟨S2x16384x256, .f32⟩
  | .hbm, ⟨28, _⟩ => ⟨S2x16384x256, .f32⟩
  | .hbm, ⟨29, _⟩ => ⟨S2x16384x512, .f32⟩
  | .hbm, ⟨30, _⟩ => ⟨S2x16384x512, .f32⟩
  | .hbm, ⟨31, _⟩ => ⟨S2x16384x16, .f32⟩
  | .hbm, ⟨32, _⟩ => ⟨S2x16384x16, .f32⟩
  | .hbm, ⟨33, _⟩ => ⟨S2x16384x512, .f32⟩
  | .hbm, ⟨34, _⟩ => ⟨S2x16384x128, .f32⟩
  | .hbm, ⟨35, _⟩ => ⟨S2x16384x128, .f32⟩
  | .hbm, ⟨36, _⟩ => ⟨S2x16384x512, .f32⟩
  | .hbm, ⟨37, _⟩ => ⟨S2x16384x1536, .f32⟩
  | .hbm, ⟨38, _⟩ => ⟨S2x16384x512, .f32⟩
  | .hbm, ⟨39, _⟩ => ⟨S2x16384x3072, .f32⟩
  | .hbm, ⟨40, _⟩ => ⟨S_, .f32⟩
  | .hbm, ⟨41, _⟩ => ⟨S2x16384x96, .f32⟩
  | .hbm, ⟨42, _⟩ => ⟨S2x16384x128, .f32⟩
  | .hbm, ⟨43, _⟩ => ⟨S2x16384x128, .bf16⟩
  | .hbm, ⟨44, _⟩ => ⟨S2x16384x128, .f32⟩
  | .hbm, ⟨45, _⟩ => ⟨S2x16384x128, .f32⟩
  | .hbm, ⟨46, _⟩ => ⟨S2x16384x8192, .f32⟩
  | .hbm, ⟨47, _⟩ => ⟨S2x16384x8192, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Proof.Body.lean ====
/-
  The attention body's run: the skeleton walked once by `sl_exec` at symbolic contents, the key loop by its generated
  invariant; the pieces it leaves in the memrefs it writes are the run's own finds, functions of the contents it found.
-/
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole memref's buffer on core `c`, held at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 4000000 in
/-- The body run once: from every operand held at given contents to every operand held at the contents it leaves, the
    inputs' unchanged, the result's and the scratches' the found pieces written over what they held. -/
@[irreducible] def bodyRun (c : Dev nD) (i : grid0.Coords) (arg3 : Memref sig .tc .vmem S1x1024x512 .fp8e4m3) (harg3 : arg3.IsWhole) (arg4 : Memref sig .tc .vmem S1x1x16640x256 .fp8e4m3) (harg4 : arg4.IsWhole) (arg5 : Memref sig .tc .vmem S1x64x16640 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x1x512 .f32) (harg8 : arg8.IsWhole) (arg9 : Memref sig .tc .vmem S2x4x1x512 .f32) (harg9 : arg9.IsWhole) (arg10 : Memref sig .tc .vmem S4x80x512 .f32) (harg10 : arg10.IsWhole) (arg11 : Memref sig .tc .vmem S2x4x1280x512 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (g8 : BufTy.Contents (Elt F) arg8.view.ty) (g9 : BufTy.Contents (Elt F) arg9.view.ty) (g10 : BufTy.Contents (Elt F) arg10.view.ty) (g11 : BufTy.Contents (Elt F) arg11.view.ty) :
    { L7 : List (View.Piece (Elt F) S1x512x256 .bf16) // ∀ (E : Set ℕ) (g7 : BufTy.Contents (Elt F) arg7.view.ty),
      (iprop(pt c arg3 X3 ∗ pt c arg4 X4 ∗ pt c arg5 X5 ∗ pt c arg6 X6 ∗ pt c arg7 g7 ∗ pt c arg8 g8 ∗ pt c arg9 g9 ∗ pt c arg10 g10 ∗ pt c arg11 g11) : sProp 𝕄)
      ⊢ wp frame (wpE (defs₀ (F := F)) Variants.none (c : Thread nD τ) none) E (cc0_attn_skel (F := F) i arg3 harg3 arg4 harg4 arg5 harg5 arg6 harg6 arg7 harg7 arg8 harg8 arg9 harg9 arg10 harg10 arg11 harg11)
          (fun _ => iprop(pt c arg3 X3 ∗ pt c arg4 X4 ∗ pt c arg5 X5 ∗ pt c arg6 X6 ∗ pt c arg7 (arg7.view.writes (Elt F) g7 L7) ∗ (∃ f, pt c arg8 f) ∗ (∃ f, pt c arg9 f) ∗ (∃ f, pt c arg10 f) ∗ (∃ f, pt c arg11 f))) } := by
  refine ⟨?_, fun E g7 => ?run⟩
  case run =>
    unfold cc0_attn_skel
    iintro ⟨H3, H4, H5, H6, H7, H8, H9, H10, H11⟩
    sl_exec
    sl_step
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11

end Cert.KernelIdeal.Body

end
-- ==== Proof.AttnFrame.lean ====
/-
  The attention call's frame: the body's run as the pipeline's body obligation with the output window forgotten, at any
  float instance; every argument array ends as it was and every semaphore counter at zero.
-/
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands at a point -/

/-- Each window's current staging memref at point `t`, and the scratches. -/
abbrev ms0 (t : Fin cfg0.N) : Memref sig .tc .vmem S1x1024x512 .fp8e4m3 := win0_0.stage (cfg0.slots t 0)
theorem hs0 (t : Fin cfg0.N) : (ms0 t).IsWhole := hstage0_0 ((cfg0.slots t 0).cast nbuf0_0)
abbrev ms1 (t : Fin cfg0.N) : Memref sig .tc .vmem S1x1x16640x256 .fp8e4m3 := win0_1.stage (cfg0.slots t 1)
theorem hs1 (t : Fin cfg0.N) : (ms1 t).IsWhole := hstage0_1 ((cfg0.slots t 1).cast nbuf0_1)
abbrev ms2 (t : Fin cfg0.N) : Memref sig .tc .vmem S1x64x16640 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S1x512x256 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S1x512x256 .bf16 := win0_4.stage (cfg0.slots t 4)
theorem hs4 (t : Fin cfg0.N) : (ms4 t).IsWhole := hstage0_4 ((cfg0.slots t 4).cast nbuf0_4)
abbrev sc0 : Memref sig .tc .vmem S4x1x512 .f32 := Memref.whole cc0_scratch0
abbrev sc1 : Memref sig .tc .vmem S2x4x1x512 .f32 := Memref.whole cc0_scratch1
abbrev sc2 : Memref sig .tc .vmem S4x80x512 .f32 := Memref.whole cc0_scratch2
abbrev sc3 : Memref sig .tc .vmem S2x4x1280x512 .f32 := Memref.whole cc0_scratch3

/-- The kit's invariant with the scratches owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The body on whole memrefs -/

/-- The result block the body leaves, as a function of the input blocks and of what the scratches held. -/
def outBlock (c : Dev nD) (t : Fin cfg0.N) (x0 : Vec F S1x1024x512 .fp8e4m3) (x1 : Vec F S1x1x16640x256 .fp8e4m3)
    (x2 : Vec F S1x64x16640 .bf16) (x3 : Vec F S1x512x256 .bf16) (g8 : BufTy.Contents (Elt F) sc0.view.ty) (g9 : BufTy.Contents (Elt F) sc1.view.ty)
    (g10 : BufTy.Contents (Elt F) sc2.view.ty) (g11 : BufTy.Contents (Elt F) sc3.view.ty) : List (View.Piece (Elt F) S1x512x256 .bf16) :=
  (bodyRun (F := F) c (grid0.coords t) (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) sc3 (Memref.isWhole_whole _)
    ((hs0 t).unread x0) ((hs1 t).unread x1) ((hs2 t).unread x2) ((hs3 t).unread x3) g8 g9 g10 g11).1

/-- The body's triple at a point, over owned memrefs: the inputs come back, the result holds the found pieces written over
    what it held, for some contents the scratches held. -/
theorem bodyTriple (c : Dev nD) (t : Fin cfg0.N) (x0 : Vec F S1x1024x512 .fp8e4m3) (x1 : Vec F S1x1x16640x256 .fp8e4m3)
    (x2 : Vec F S1x64x16640 .bf16) (x3 : Vec F S1x512x256 .bf16) (K : PUnit → sProp 𝕄) :
    iprop(owns (c : Thread nD τ) (ms0 t) fullShare x0 ∗ owns (c : Thread nD τ) (ms1 t) fullShare x1
        ∗ owns (c : Thread nD τ) (ms2 t) fullShare x2 ∗ owns (c : Thread nD τ) (ms3 t) fullShare x3
        ∗ (∃ d, owns (c : Thread nD τ) (ms4 t) fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)
        ∗ (iprop(owns (c : Thread nD τ) (ms0 t) fullShare x0 ∗ owns (c : Thread nD τ) (ms1 t) fullShare x1
            ∗ owns (c : Thread nD τ) (ms2 t) fullShare x2 ∗ owns (c : Thread nD τ) (ms3 t) fullShare x3
            ∗ (∃ g7 g8 g9 g10 g11, owns (c : Thread nD τ) (ms4 t) fullShare
                ((ms4 t).view.read (Elt F) ((ms4 t).view.writes (Elt F) g7 (outBlock c t x0 x1 x2 x3 g8 g9 g10 g11))))
            ∗ (∃ d, owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) -∗ K ⟨⟩))
      ⊢ wp frame (wpE (defs₀ (F := F)) Variants.none c none) Set.univ (bodyAt0 t) K := by
  unfold bodyAt0
  simp only [cc0_attn_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  obtain rfl := (hs0 t).eq_unread hf0
  obtain rfl := (hs1 t).eq_unread hf1
  obtain rfl := (hs2 t).eq_unread hf2
  obtain rfl := (hs3 t).eq_unread hf3
  iapply (wp_wand_r Idealize.ShloMosaic.frame (wpE (defs₀ (F := F)) Variants.none (c : Thread nD τ) none) Set.univ)
  isplitr [Hk]
  · iapply ((bodyRun (F := F) c (grid0.coords t) (ms0 t) (hs0 t) (ms1 t) (hs1 t) (ms2 t) (hs2 t) (ms3 t) (hs3 t) (ms4 t) (hs4 t)
      sc0 (Memref.isWhole_whole _) sc1 (Memref.isWhole_whole _) sc2 (Memref.isWhole_whole _) sc3 (Memref.isWhole_whole _)
      ((hs0 t).unread x0) ((hs1 t).unread x1) ((hs2 t).unread x2) ((hs3 t).unread x3) f5 f6 f7 f8).2 Set.univ f4)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro %_ ⟨H0, H1, H2, H3, H4, ⟨%e5, H5⟩, ⟨%e6, H6⟩, ⟨%e7, H7⟩, ⟨%e8, H8⟩⟩
    iapply Hk
    isplitl [H0]
    · iexists _; isplitr; · ipureintro; exact (hs0 t).read_unread _
      iexact H0
    isplitl [H1]
    · iexists _; isplitr; · ipureintro; exact (hs1 t).read_unread _
      iexact H1
    isplitl [H2]
    · iexists _; isplitr; · ipureintro; exact (hs2 t).read_unread _
      iexact H2
    isplitl [H3]
    · iexists _; isplitr; · ipureintro; exact (hs3 t).read_unread _
      iexact H3
    isplitl [H4]
    · iexists f4, f5, f6, f7, f8, _; isplitr; swap; · iexact H4
      ipureintro; unfold outBlock; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-! ## The frame, the output forgotten -/

/-- The frame's proof data: the arrays as the region finds them, each input's buffer left at its block, the output's
    contents not named. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The forgotten windows: the output alone. -/
def forgets : Fin 5 → Bool := fun w => w.val == 4

theorem fA_eq (c : Dev nD) (w : Fin cfg0.W) : (fdats m 0 c).A w = V m c (Pipeline.arrRef spec0 w) := by
  dsimp only [fdats]
theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]
theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d

/-- What the body is called with at point `t`. -/
def fPre (c : Dev nD) (t : Fin cfg0.N) : sProp 𝕄 :=
  iprop((fdats m 0 c).Φ t.castSucc ∗ (fdats m 0 c).owesAt () t.castSucc
    ∗ (∃ d, owns (c : Thread nD τ) (ms0 t) fullShare ((fdats m 0 c).before 0 t d))
    ∗ (∃ d, owns (c : Thread nD τ) (ms1 t) fullShare ((fdats m 0 c).before 1 t d))
    ∗ (∃ d, owns (c : Thread nD τ) (ms2 t) fullShare ((fdats m 0 c).before 2 t d))
    ∗ (∃ d, owns (c : Thread nD τ) (ms3 t) fullShare ((fdats m 0 c).before 3 t d))
    ∗ (∃ d, owns (c : Thread nD τ) (ms4 t) fullShare d))

/-- What the body returns at point `t`. -/
def fPost (c : Dev nD) (t : Fin cfg0.N) : sProp 𝕄 :=
  iprop((fdats m 0 c).Φ t.succ ∗ (fdats m 0 c).owesAt () t.succ
    ∗ owns (c : Thread nD τ) (ms0 t) fullShare ((fdats m 0 c).after 0 t)
    ∗ owns (c : Thread nD τ) (ms1 t) fullShare ((fdats m 0 c).after 1 t)
    ∗ owns (c : Thread nD τ) (ms2 t) fullShare ((fdats m 0 c).after 2 t)
    ∗ owns (c : Thread nD τ) (ms3 t) fullShare ((fdats m 0 c).after 3 t)
    ∗ (∃ d, owns (c : Thread nD τ) (ms4 t) fullShare d))

/-- The body at any point, the output forgotten. -/
theorem fsound (c : Dev nD) (t : Fin cfg0.N) :
    fPre m c t ⊢ wp frame (wpE (defs₀ (F := F)) Variants.none c none) Set.univ (bodyAt0 t) (fun _ => fPost m c t) := by
  unfold fPre fPost
  simp only [fbefore0, fbefore1, fbefore2, fbefore3]
  rw [show (fdats m 0 c).Φ t.succ = (fdats m 0 c).Φ t.castSucc from rfl,
    show (fdats m 0 c).owesAt () t.succ = (fdats m 0 c).owesAt () t.castSucc from rfl,
    fafter0, fafter1, fafter2, fafter3]
  rw [show (fdats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply (bodyTriple c t (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%g7, %g8, %g9, %g10, %g11, H4⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexists _; iexact H4

/-- The library's body obligation at every point, the output forgotten. -/
theorem fobligation (c : Dev nD) : BodyObligation (fdats (F := F) m 0 c) (defs₀ (F := F)) Variants.none () Set.univ forgets := fun t => by
  rw [bigSep_W0, bigSep_W0, body_row]
  exact triple_restated (fsound m c t) rfl .rfl fun _ => .rfl

set_option backward.isDefEq.respectTransparency.types false in
/-- The launch, with every semaphore counter at zero at the end. -/
theorem frun_quiescent : θ_run defs (onTc (τ := τ) (main (F := F))) (s₀ m ρ) (fun r => (Pipeline.RDat.FramePost (cfgs 0) (fun c => (fdats m 0 c).toRForget forgets) (V m)) r ∧ r.2.sem = fun _ => 0) :=
  Pipeline.θ_run_frame_forget (Q' := _) cfgs (fdats m) (0 : Fin 1) launch0 defs₀ Variants.none forgets m ρ main
    (hbody := fun c => (fobligation m c).loose) (hshare := fun c => (fdats m 0 c).share_full fun _ => rfl)
    (howed := fun _ _ => rfl) (V := V m) (hmain := hmain m Variants.none) (hA := fA_eq m) (hΦ := fun _ _ => rfl)

/-- THE FRAME: every argument array ends as it was and every semaphore counter at zero. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       (Pipeline.RDat.FramePost.arr_in h.1 c 3 rfl).trans ((fA_eq m c 3).trans (V_main_arg5 m c))⟩, h.2⟩) (frun_quiescent m ρ)

end Cert.KernelIdeal.Body

end
-- ==== Proof.Parts.lean ====
/-
  The attention body's vectors by name, and its four scratch buffers read part by part: a part is a head of the group and
  a half of the query columns, eight of them.
-/
module

public import proofs.«01_k».proof.Proof.Gen.KernelIdeal.Loops
public import Idealize.ShloMosaic.Lib.Pipeline.ReadBack

@[expose] public section

set_option maxRecDepth 16384

noncomputable section

namespace Cert.KernelIdeal.Body

open Cert.KernelIdeal Cert.KernelIdeal.Gen
open Idealize.ShloMosaic Idealize.ShloMosaic.TcCoe

section
variable {sig : RefSig} {κ : Kind} {sp : Space} {s : Shape} {e : EltTy} {Val : EltTy → Type}

/-- A load of the rectangle written last reads what was written. -/
theorem hit [∀ e, Nonempty (Val e)] (v : View sig κ sp s e) (f : v.ty.Contents Val) (r : Rect s) (w : r.shape.Idx → Val e)
    (L : List (View.Piece Val s e)) : v.readAt Val r.toLoadRect (v.writes Val f (⟨r, w⟩ :: L)) = w :=
  (View.readAt_writes_of_cover v f _ _ fun j => ⟨⟨r, w⟩, List.mem_cons_self .., r.toLoadRect.idx_mem j⟩).trans
    (View.readCov_cons_toLoadRect v r w L)

/-- A load of a rectangle apart from the one written last reads the earlier writes. -/
theorem miss (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) :=
  View.readAt_writes_of_forall_not_mem v (v.writes Val f L) [⟨r, w⟩] B fun j p hp => by
    rcases List.mem_singleton.mp hp with rfl
    exact LoadRect.idx_not_mem_of_disj h j

/-- A load at offsets equal to others is the load there. -/
theorem readAt_off (v : View sig κ sp s e) (f : v.ty.Contents Val) (o o' : Fin s.rank → ℕ) (sz : Fin s.rank → ℕ)
    (hi : ∀ a, o a + sz a ≤ s.size a) (hi' : ∀ a, o' a + sz a ≤ s.size a) (h : o = o') :
    v.readAt Val (Rect.unit o sz hi).toLoadRect f = v.readAt Val (Rect.unit o' sz hi').toLoadRect f := by
  subst h; rfl

end

variable {F : FTy → Type} [FloatOps F]

/-- Part `p`'s rectangle of the running maxima. -/
abbrev r8 (p : Fin 8) : Rect S4x1x512 := Rect.unit (s := S4x1x512) ![p.val / 2, 0, 256 * (p.val % 2)] S1x1x256.size (by revert p; decide +kernel)
/-- Part `p`'s rectangle of the next block's column maxima, slot 0. -/
abbrev r9 (p : Fin 8) : Rect S2x4x1x512 := Rect.unit (s := S2x4x1x512) ![0, p.val / 2, 0, 256 * (p.val % 2)] S1x1x1x256.size (by revert p; decide +kernel)
/-- Part `p`'s rectangle of the accumulators. -/
abbrev r10 (p : Fin 8) : Rect S4x80x512 := Rect.unit (s := S4x80x512) ![p.val / 2, 0, 256 * (p.val % 2)] S1x80x256.size (by revert p; decide +kernel)
/-- Part `p`'s rectangle of the next block's scores, slot 0. -/
abbrev r11 (p : Fin 8) : Rect S2x4x1280x512 := Rect.unit (s := S2x4x1280x512) ![0, p.val / 2, 0, 256 * (p.val % 2)] S1x1x1280x256.size (by revert p; decide +kernel)
/-- Part `p`'s rectangle of the queries. -/
abbrev r3 (p : Fin 8) : Rect S1x1024x512 := Rect.unit (s := S1x1024x512) ![0, 256 * (p.val / 2), 256 * (p.val % 2)] S1x256x256.size (by revert p; decide +kernel)

/-- The rectangle of key block `j`. -/
abbrev r4 (j : Fin 13) : Rect S1x1x16640x256 := Rect.unit (s := S1x1x16640x256) ![0, 0, 1280 * j.val, 0] S1x1x1280x256.size (by revert j; decide +kernel)
/-- The rectangle of value block `j`. -/
abbrev r5 (j : Fin 13) : Rect S1x64x16640 := Rect.unit (s := S1x64x16640) ![0, 0, 1280 * j.val] S1x64x1280.size (by revert j; decide +kernel)

variable (arg3 : Memref sig .tc .vmem S1x1024x512 .fp8e4m3) (arg4 : Memref sig .tc .vmem S1x1x16640x256 .fp8e4m3) (arg5 : Memref sig .tc .vmem S1x64x16640 .bf16)
  (arg8 : Memref sig .tc .vmem S4x1x512 .f32) (arg9 : Memref sig .tc .vmem S2x4x1x512 .f32) (arg10 : Memref sig .tc .vmem S4x80x512 .f32) (arg11 : Memref sig .tc .vmem S2x4x1280x512 .f32)

/-- The running maxima of part `p`. -/
abbrev rdM (f : BufTy.Contents (Elt F) arg8.view.ty) (p : Fin 8) : Vec F S1x1x256 .f32 := View.readAt (Elt F) arg8.view (r8 p).toLoadRect f
/-- The column maxima of part `p`, slot 0. -/
abbrev rdT (f : BufTy.Contents (Elt F) arg9.view.ty) (p : Fin 8) : Vec F S1x1x1x256 .f32 := View.readAt (Elt F) arg9.view (r9 p).toLoadRect f
/-- The accumulator of part `p`. -/
abbrev rdA (f : BufTy.Contents (Elt F) arg10.view.ty) (p : Fin 8) : Vec F S1x80x256 .f32 := View.readAt (Elt F) arg10.view (r10 p).toLoadRect f
/-- The scores of part `p`, slot 0. -/
abbrev rdS (f : BufTy.Contents (Elt F) arg11.view.ty) (p : Fin 8) : Vec F S1x1x1280x256 .f32 := View.readAt (Elt F) arg11.view (r11 p).toLoadRect f
/-- The queries of part `p`. -/
abbrev rdQ (f : BufTy.Contents (Elt F) arg3.view.ty) (p : Fin 8) : Vec F S1x256x256 .fp8e4m3 := View.readAt (Elt F) arg3.view (r3 p).toLoadRect f
/-- Key block `j`. -/
abbrev rdK (f : BufTy.Contents (Elt F) arg4.view.ty) (j : Fin 13) : Vec F S1x1x1280x256 .fp8e4m3 := View.readAt (Elt F) arg4.view (r4 j).toLoadRect f
/-- Value block `j`. -/
abbrev rdV (f : BufTy.Contents (Elt F) arg5.view.ty) (j : Fin 13) : Vec F S1x64x1280 .bf16 := View.readAt (Elt F) arg5.view (r5 j).toLoadRect f

/-- The scores of a key block against a part's queries. -/
abbrev scV (kb : Vec F S1x1x1280x256 .fp8e4m3) (q : Vec F S1x256x256 .fp8e4m3) : Vec F S1x1x1280x256 .f32 := k0_pay170 kb q
/-- Their column maxima. -/
abbrev cmV (kb : Vec F S1x1x1280x256 .fp8e4m3) (q : Vec F S1x256x256 .fp8e4m3) : Vec F S1x1x1x256 .f32 := k0_pay171 kb q
/-- The new running maxima. -/
abbrev mxV (m : Vec F S1x1x256 .f32) (t : Vec F S1x1x1x256 .f32) : Vec F S1x1x256 .f32 := k0_pay77 m t
/-- The new accumulator. -/
abbrev acV (v8 : FVec F S16x1280 .bf16) (vb : Vec F S1x64x1280 .bf16) (m : Vec F S1x1x256 .f32) (t : Vec F S1x1x1x256 .f32) (s : Vec F S1x1x1280x256 .f32) (a : Vec F S1x80x256 .f32) : Vec F S1x80x256 .f32 :=
  k0_pay78 (k0_pay3 v8 vb) m t s a

end Cert.KernelIdeal.Body

end
-- ==== Proof.Trip.lean ====
/-
  One trip of the attention's counted loop, read part by part: what each of the four scratch buffers holds of each part
  after the trip, from what it held before.
-/
module

public import proofs.«01_k».proof.Proof.Parts

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]
variable (𝒱 : Variants) (c : Dev nD) (bd : Option 𝒱.V) (i : grid0.Coords)
  (arg3 : Memref sig .tc .vmem S1x1024x512 .fp8e4m3) (harg3 : arg3.IsWhole) (arg4 : Memref sig .tc .vmem S1x1x16640x256 .fp8e4m3) (harg4 : arg4.IsWhole)
  (arg5 : Memref sig .tc .vmem S1x64x16640 .bf16) (harg5 : arg5.IsWhole) (arg6 : Memref sig .tc .vmem S1x512x256 .bf16) (harg6 : arg6.IsWhole)
  (arg7 : Memref sig .tc .vmem S1x512x256 .bf16) (harg7 : arg7.IsWhole) (arg8 : Memref sig .tc .vmem S4x1x512 .f32) (harg8 : arg8.IsWhole)
  (arg9 : Memref sig .tc .vmem S2x4x1x512 .f32) (harg9 : arg9.IsWhole) (arg10 : Memref sig .tc .vmem S4x80x512 .f32) (harg10 : arg10.IsWhole)
  (arg11 : Memref sig .tc .vmem S2x4x1280x512 .f32) (harg11 : arg11.IsWhole) (v8 : FVec F S16x1280 .bf16) (c0_i32 : BitVec 32)
  (X_arg3 : BufTy.Contents (Elt F) arg3.view.ty) (X_arg4 : BufTy.Contents (Elt F) arg4.view.ty) (X_arg5 : BufTy.Contents (Elt F) arg5.view.ty)
  (k : Fin k0_t1_loop.trips)
  (f_arg8 : BufTy.Contents (Elt F) arg8.view.ty) (f_arg9 : BufTy.Contents (Elt F) arg9.view.ty) (f_arg10 : BufTy.Contents (Elt F) arg10.view.ty)
  (f_arg11 : BufTy.Contents (Elt F) arg11.view.ty)

/-- The key block of the trip's first half. -/
abbrev kA : Vec F S1x1x1280x256 .fp8e4m3 := View.readAt (Elt F) arg4.view (Rect.unit (s := S1x1x16640x256) (k0_off1 k 0#32) S1x1x1280x256.size (k0_off1_inb k 0)).toLoadRect X_arg4
/-- The key block of the trip's second half. -/
abbrev kB : Vec F S1x1x1280x256 .fp8e4m3 := View.readAt (Elt F) arg4.view (Rect.unit (s := S1x1x16640x256) (k0_off1 k 1#32) S1x1x1280x256.size (k0_off1_inb k 1)).toLoadRect X_arg4
/-- The value block of the trip's first half. -/
abbrev vA : Vec F S1x64x1280 .bf16 := View.readAt (Elt F) arg5.view (Rect.unit (s := S1x64x16640) (k0_off2 k 0#32) S1x64x1280.size (k0_off2_inb k 0)).toLoadRect X_arg5
/-- The value block of the trip's second half. -/
abbrev vB : Vec F S1x64x1280 .bf16 := View.readAt (Elt F) arg5.view (Rect.unit (s := S1x64x16640) (k0_off2 k 1#32) S1x64x1280.size (k0_off2_inb k 1)).toLoadRect X_arg5

theorem w_v764 : (trip_k0_t1.sl.v764 (F := F) arg8 arg9 f_arg8 f_arg9) = (mxV (rdM arg8 f_arg8 0) (rdT arg9 f_arg9 0)) := by
  iterate 7 refine (miss _ _ _ _ _ _ (by decide)).trans ?_
  exact hit ..

theorem w_v766 : (trip_k0_t1.sl.v766 (F := F) arg3 arg4 arg9 X_arg3 X_arg4 k) = (cmV (kA arg4 X_arg4 k) (rdQ arg3 X_arg3 0)) := by
  iterate 8 refine (miss _ _ _ _ _ _ (by decide)).trans ?_
  exact hit ..

theorem w_v774 : (trip_k0_t1.sl.v774 (F := F) arg3 arg4 arg11 X_arg3 X_arg4 k) = (scV (kA arg4 X_arg4 k) (rdQ arg3 X_arg3 0)) := by
  iterate 8 refine (miss _ _ _ _ _ _ (by decide)).trans ?_
  exact hit ..

theorem w_v780 : (trip_k0_t1.sl.v780 (F := F) arg5 arg8 arg9 arg10 arg11 v8 X_arg5 k f_arg8 f_arg9 f_arg10 f_arg11) = (acV v8 (vA arg5 X_arg5 k) (rdM arg8 f_arg8 0) (rdT arg9 f_arg9 0) (rdS arg11 f_arg11 0) (rdA arg10 f_arg10 0)) := by
  iterate 7 refine (miss _ _ _ _ _ _ (by decide)).trans ?_
  exact hit ..

theorem w_v800 : (trip_k0_t1.sl.v800 (F := F) arg3 arg4 arg8 arg9 X_arg3 X_arg4 k f_arg8 f_arg9) = (mxV (rdM arg8 f_arg8 1) (rdT arg9 f_arg9 1)) := by
  iterate 7 refine (miss _ _ _ _ _ _ (by decide)).trans ?_
  exact hit ..

theorem w_v802 : (trip_k0_t1.sl.v802 (F := F) arg3 arg4 arg9 X_arg3 X_arg4 k) = (cmV (kA arg4 X_arg4 k) (rdQ arg3 X_arg3 1)) := by
  iterate 8 refine (miss _ _ _ _ _ _ (by decide)).trans ?_
  exact hit ..

theorem w_v810 : (trip_k0_t1.sl.v810 (F := F) arg3 arg4 arg11 X_arg3 X_arg4 k) = (scV (kA arg4 X_arg4 k) (rdQ arg3 X_arg3 1)) := by
  iterate 8 refine (miss _ _ _ _ _ _ (by decide)).trans ?_
  exact hit ..

theorem w_v816 : (trip_k0_t1.sl.v816 (F := F) arg3 arg4 arg5 arg8 arg9 arg10 arg11 v8 X_arg3 X_arg4 X_arg5 k f_arg8 f_arg9 f_arg10 f_arg11) = (acV v8 (vA arg5 X_arg5 k) (rdM arg8 f_arg8 1) (rdT arg9 f_arg9 1) (rdS arg11 f_arg11 1) (rdA arg10 f_arg10 1)) := by
  iterate 7 refine (miss _ _ _ _ _ _ (by decide)).trans ?_
  exact hit ..

theorem w_v836 : (trip_k0_t1.sl.v836 (F := F) arg3 arg4 arg8 arg9 X_arg3 X_arg4 k f_arg8 f_arg9) = (mxV (rdM arg8 f_arg8 2) (rdT arg9 f_arg9 2)) := by
  iterate 7 refine (miss _ _ _ _ _ _ (by decide)).trans ?_
  exact hit ..

theorem w_v838 : (trip_k0_t1.sl.v838 (F := F) arg3 arg4 arg9 X_arg3 X_arg4 k) = (cmV (kA arg4 X_arg4 k) (rdQ arg3 X_arg3 2)) := by
  iterate 8 refine (miss _ _ _ _ _ _ (by decide)).trans ?_
  exact hit ..

theorem w_v846 : (trip_k0_t1.sl.v846 (F := F) arg3 arg4 arg11 X_arg3 X_arg4 k) = (scV (kA arg4 X_arg4 k) (rdQ arg3 X_arg3 2)) := by
  iterate 8 refine (miss _ _ _ _ _ _ (by decide)).trans ?_
  exact hit ..

theorem w_v852 : (trip_k0_t1.sl.v852 (F := F) arg3 arg4 arg5 arg8 arg9 arg10 arg11 v8 X_arg3 X_arg4 X_arg5 k f_arg8 f_arg9 f_arg10 f_arg11) = (acV v8 (vA arg5 X_arg5 k) (rdM arg8 f_arg8 2) (rdT arg9 f_arg9 2) (rdS arg11 f_arg11 2) (rdA arg10 f_arg10 2)) := by
  iterate 7 refine (miss _ _ _ _ _ _ (by decide)).trans ?_
  exact hit ..

theorem w_v872 : (trip_k0_t1.sl.v872 (F := F) arg3 arg4 arg8 arg9 X_arg3 X_arg4 k f_arg8 f_arg9) = (mxV (rdM arg8 f_arg8 3) (rdT arg9 f_arg9 3)) := by
  iterate 7 refine (miss _ _ _ _ _ _ (by decide)).trans ?_
  exact hit ..

theorem w_v874 : (trip_k0_t1.sl.v874 (F := F) arg3 arg4 arg9 X_arg3 X_arg4 k) = (cmV (kA arg4 X_arg4 k) (rdQ arg3 X_arg3 3)) := by
  iterate 8 refine (miss _ _ _ _ _ _ (by decide)).trans ?_
  exact hit ..

theorem w_v882 : (trip_k0_t1.sl.v882 (F := F) arg3 arg4 arg11 X_arg3 X_arg4 k) = (scV (kA arg4 X_arg4 k) (rdQ arg3 X_arg3 3)) := by
  iterate 8 refine (miss _ _ _ _ _ _ (by decide)).trans ?_
  exact hit ..

theorem w_v888 : (trip_k0_t1.sl.v888 (F := F) arg3 arg4 arg5 arg8 arg9 arg10 arg11 v8 X_arg3 X_arg4 X_arg5 k f_arg8 f_arg9 f_arg10 f_arg11) = (acV v8 (vA arg5 X_arg5 k) (rdM arg8 f_arg8 3) (rdT arg9 f_arg9 3) (rdS arg11 f_arg11 3) (rdA arg10 f_arg10 3)) := by
  iterate 7 refine (miss _ _ _ _ _ _ (by decide)).trans ?_
  exact hit ..

theorem w_v908 : (trip_k0_t1.sl.v908 (F := F) arg3 arg4 arg8 arg9 X_arg3 X_arg4 k f_arg8 f_arg9) = (mxV (rdM arg8 f_arg8 4) (rdT arg9 f_arg9 4)) := by
  iterate 7 refine (miss _ _ _ _ _ _ (by decide)).trans ?_
  exact hit ..

theorem w_v910 : (trip_k0_t1.sl.v910 (F := F) arg3 arg4 arg9 X_arg3 X_arg4 k) = (cmV (kA arg4 X_arg4 k) (rdQ arg3 X_arg3 4)) := by
  iterate 8 refine (miss _ _ _ _ _ _ (by decide)).trans ?_
  exact hit ..

theorem w_v918 : (trip_k0_t1.sl.v918 (F := F) arg3 arg4 arg11 X_arg3 X_arg4 k) = (scV (kA arg4 X_arg4 k) (rdQ arg3 X_arg3 4)) := by
  iterate 8 refine (miss _ _ _ _ _ _ (by decide)).trans ?_
  exact hit ..

theorem w_v924 : (trip_k0_t1.sl.v924 (F := F) arg3 arg4 arg5 arg8 arg9 arg10 arg11 v8 X_arg3 X_arg4 X_arg5 k f_arg8 f_arg9 f_arg10 f_arg11) = (acV v8 (vA arg5 X_arg5 k) (rdM arg8 f_arg8 4) (rdT arg9 f_arg9 4) (rdS arg11 f_arg11 4) (rdA arg10 f_arg10 4)) := by
  iterate 7 refine (miss _ _ _ _ _ _ (by decide)).trans ?_
  exact hit ..

theorem w_v944 : (trip_k0_t1.sl.v944 (F := F) arg3 arg4 arg8 arg9 X_arg3 X_arg4 k f_arg8 f_arg9) = (mxV (rdM arg8 f_arg8 5) (rdT arg9 f_arg9 5)) := by
  iterate 7 refine (miss _ _ _ _ _ _ (by decide)).trans ?_
  exact hit ..

theorem w_v946 : (trip_k0_t1.sl.v946 (F := F) arg3 arg4 arg9 X_arg3 X_arg4 k) = (cmV (kA arg4 X_arg4 k) (rdQ arg3 X_arg3 5)) := by
  iterate 8 refine (miss _ _ _ _ _ _ (by decide)).trans ?_
  exact hit ..

theorem w_v954 : (trip_k0_t1.sl.v954 (F := F) arg3 arg4 arg11 X_arg3 X_arg4 k) = (scV (kA arg4 X_arg4 k) (rdQ arg3 X_arg3 5)) := by
  iterate 8 refine (miss _ _ _ _ _ _ (by decide)).trans ?_
  exact hit ..

theorem w_v960 : (trip_k0_t1.sl.v960 (F := F) arg3 arg4 arg5 arg8 arg9 arg10 arg11 v8 X_arg3 X_arg4 X_arg5 k f_arg8 f_arg9 f_arg10 f_arg11) = (acV v8 (vA arg5 X_arg5 k) (rdM arg8 f_arg8 5) (rdT arg9 f_arg9 5) (rdS arg11 f_arg11 5) (rdA arg10 f_arg10 5)) := by
  iterate 7 refine (miss _ _ _ _ _ _ (by decide)).trans ?_
  exact hit ..

theorem w_v980 : (trip_k0_t1.sl.v980 (F := F) arg3 arg4 arg8 arg9 X_arg3 X_arg4 k f_arg8 f_arg9) = (mxV (rdM arg8 f_arg8 6) (rdT arg9 f_arg9 6)) := by
  iterate 7 refine (miss _ _ _ _ _ _ (by decide)).trans ?_
  exact hit ..

theorem w_v982 : (trip_k0_t1.sl.v982 (F := F) arg3 arg4 arg9 X_arg3 X_arg4 k) = (cmV (kA arg4 X_arg4 k) (rdQ arg3 X_arg3 6)) := by
  iterate 8 refine (miss _ _ _ _ _ _ (by decide)).trans ?_
  exact hit ..

theorem w_v990 : (trip_k0_t1.sl.v990 (F := F) arg3 arg4 arg11 X_arg3 X_arg4 k) = (scV (kA arg4 X_arg4 k) (rdQ arg3 X_arg3 6)) := by
  iterate 8 refine (miss _ _ _ _ _ _ (by decide)).trans ?_
  exact hit ..

theorem w_v996 : (trip_k0_t1.sl.v996 (F := F) arg3 arg4 arg5 arg8 arg9 arg10 arg11 v8 X_arg3 X_arg4 X_arg5 k f_arg8 f_arg9 f_arg10 f_arg11) = (acV v8 (vA arg5 X_arg5 k) (rdM arg8 f_arg8 6) (rdT arg9 f_arg9 6) (rdS arg11 f_arg11 6) (rdA arg10 f_arg10 6)) := by
  iterate 7 refine (miss _ _ _ _ _ _ (by decide)).trans ?_
  exact hit ..

theorem w_v1016 : (trip_k0_t1.sl.v1016 (F := F) arg3 arg4 arg8 arg9 X_arg3 X_arg4 k f_arg8 f_arg9) = (mxV (rdM arg8 f_arg8 7) (rdT arg9 f_arg9 7)) := by
  iterate 7 refine (miss _ _ _ _ _ _ (by decide)).trans ?_
  exact hit ..

theorem w_v1018 : (trip_k0_t1.sl.v1018 (F := F) arg3 arg4 arg9 X_arg3 X_arg4 k) = (cmV (kA arg4 X_arg4 k) (rdQ arg3 X_arg3 7)) := by
  iterate 8 refine (miss _ _ _ _ _ _ (by decide)).trans ?_
  exact hit ..

theorem w_v1026 : (trip_k0_t1.sl.v1026 (F := F) arg3 arg4 arg11 X_arg3 X_arg4 k) = (scV (kA arg4 X_arg4 k) (rdQ arg3 X_arg3 7)) := by
  iterate 8 refine (miss _ _ _ _ _ _ (by decide)).trans ?_
  exact hit ..

theorem w_v1032 : (trip_k0_t1.sl.v1032 (F := F) arg3 arg4 arg5 arg8 arg9 arg10 arg11 v8 X_arg3 X_arg4 X_arg5 k f_arg8 f_arg9 f_arg10 f_arg11) = (acV v8 (vA arg5 X_arg5 k) (rdM arg8 f_arg8 7) (rdT arg9 f_arg9 7) (rdS arg11 f_arg11 7) (rdA arg10 f_arg10 7)) := by
  iterate 7 refine (miss _ _ _ _ _ _ (by decide)).trans ?_
  exact hit ..

theorem tr8 : (trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).1 f_arg8 f_arg9 f_arg10 f_arg11 = ⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9) := by
  unfold trip_k0_t1; rfl

theorem tr8_0 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 0 = mxV (mxV (rdM arg8 f_arg8 0) (rdT arg9 f_arg9 0)) (cmV (kA arg4 X_arg4 k) (rdQ arg3 X_arg3 0)) := by
  iterate 7 refine (miss _ _ _ _ _ _ (by decide)).trans ?_
  refine (hit ..).trans ?_
  show mxV (trip_k0_t1.sl.v764 (F := F) arg8 arg9 f_arg8 f_arg9) (trip_k0_t1.sl.v766 (F := F) arg3 arg4 arg9 X_arg3 X_arg4 k) = _
  rw [w_v764, w_v766]

theorem tr8_1 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 1 = mxV (mxV (rdM arg8 f_arg8 1) (rdT arg9 f_arg9 1)) (cmV (kA arg4 X_arg4 k) (rdQ arg3 X_arg3 1)) := by
  iterate 6 refine (miss _ _ _ _ _ _ (by decide)).trans ?_
  refine (hit ..).trans ?_
  show mxV (trip_k0_t1.sl.v800 (F := F) arg3 arg4 arg8 arg9 X_arg3 X_arg4 k f_arg8 f_arg9) (trip_k0_t1.sl.v802 (F := F) arg3 arg4 arg9 X_arg3 X_arg4 k) = _
  rw [w_v800, w_v802]

theorem tr8_2 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 2 = mxV (mxV (rdM arg8 f_arg8 2) (rdT arg9 f_arg9 2)) (cmV (kA arg4 X_arg4 k) (rdQ arg3 X_arg3 2)) := by
  iterate 5 refine (miss _ _ _ _ _ _ (by decide)).trans ?_
  refine (hit ..).trans ?_
  show mxV (trip_k0_t1.sl.v836 (F := F) arg3 arg4 arg8 arg9 X_arg3 X_arg4 k f_arg8 f_arg9) (trip_k0_t1.sl.v838 (F := F) arg3 arg4 arg9 X_arg3 X_arg4 k) = _
  rw [w_v836, w_v838]

theorem tr8_3 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 3 = mxV (mxV (rdM arg8 f_arg8 3) (rdT arg9 f_arg9 3)) (cmV (kA arg4 X_arg4 k) (rdQ arg3 X_arg3 3)) := by
  iterate 4 refine (miss _ _ _ _ _ _ (by decide)).trans ?_
  refine (hit ..).trans ?_
  show mxV (trip_k0_t1.sl.v872 (F := F) arg3 arg4 arg8 arg9 X_arg3 X_arg4 k f_arg8 f_arg9) (trip_k0_t1.sl.v874 (F := F) arg3 arg4 arg9 X_arg3 X_arg4 k) = _
  rw [w_v872, w_v874]

theorem tr8_4 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 4 = mxV (mxV (rdM arg8 f_arg8 4) (rdT arg9 f_arg9 4)) (cmV (kA arg4 X_arg4 k) (rdQ arg3 X_arg3 4)) := by
  iterate 3 refine (miss _ _ _ _ _ _ (by decide)).trans ?_
  refine (hit ..).trans ?_
  show mxV (trip_k0_t1.sl.v908 (F := F) arg3 arg4 arg8 arg9 X_arg3 X_arg4 k f_arg8 f_arg9) (trip_k0_t1.sl.v910 (F := F) arg3 arg4 arg9 X_arg3 X_arg4 k) = _
  rw [w_v908, w_v910]

theorem tr8_5 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 5 = mxV (mxV (rdM arg8 f_arg8 5) (rdT arg9 f_arg9 5)) (cmV (kA arg4 X_arg4 k) (rdQ arg3 X_arg3 5)) := by
  iterate 2 refine (miss _ _ _ _ _ _ (by decide)).trans ?_
  refine (hit ..).trans ?_
  show mxV (trip_k0_t1.sl.v944 (F := F) arg3 arg4 arg8 arg9 X_arg3 X_arg4 k f_arg8 f_arg9) (trip_k0_t1.sl.v946 (F := F) arg3 arg4 arg9 X_arg3 X_arg4 k) = _
  rw [w_v944, w_v946]

theorem tr8_6 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 6 = mxV (mxV (rdM arg8 f_arg8 6) (rdT arg9 f_arg9 6)) (cmV (kA arg4 X_arg4 k) (rdQ arg3 X_arg3 6)) := by
  iterate 1 refine (miss _ _ _ _ _ _ (by decide)).trans ?_
  refine (hit ..).trans ?_
  show mxV (trip_k0_t1.sl.v980 (F := F) arg3 arg4 arg8 arg9 X_arg3 X_arg4 k f_arg8 f_arg9) (trip_k0_t1.sl.v982 (F := F) arg3 arg4 arg9 X_arg3 X_arg4 k) = _
  rw [w_v980, w_v982]

theorem tr8_7 (f : BufTy.Contents (Elt F) arg8.view.ty) : rdM arg8 (arg8.view.writes (Elt F) f (⟨Rect.unit ![3, 0, 256] S1x1x256.size inb_S4x1x512_S1x1x256_3_0_256, k0_pay165 (trip_k0_t1.sl.r_30 (F := F) arg3 arg4 arg8 arg9 X_arg3 X_arg4 k f_arg8 f_arg9) (trip_k0_t1.sl.r_31 (F := F) arg3 arg4 arg9 X_arg3 X_arg4 k)⟩ :: (trip_k0_t1.sl.HW_arg8_15 (F := F) arg3 arg4 arg8 arg9 X_arg3 X_arg4 k f_arg8 f_arg9))) 7 = mxV (mxV (rdM arg8 f_arg8 7) (rdT arg9 f_arg9 7)) (cmV (kA arg4 X_arg4 k) (rdQ arg3 X_arg3 7)) := by
  refine (hit ..).trans ?_
  show mxV (trip_k0_t1.sl.v1016 (F := F) arg3 arg4 arg8 arg9 X_arg3 X_arg4 k f_arg8 f_arg9) (trip_k0_t1.sl.v1018 (F := F) arg3 arg4 arg9 X_arg3 X_arg4 k) = _
  rw [w_v1016, w_v1018]

theorem tr9 : (trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.1 f_arg8 f_arg9 f_arg10 f_arg11 = (trip_k0_t1.sl.HW_arg9_16 (F := F) arg3 arg4 X_arg3 X_arg4 k) := by
  unfold trip_k0_t1; rfl

theorem tr9_0 (f : BufTy.Contents (Elt F) arg9.view.ty) : rdT arg9 (arg9.view.writes (Elt F) f ((trip_k0_t1.sl.HW_arg9_16 (F := F) arg3 arg4 X_arg3 X_arg4 k))) 0 = cmV (kB arg4 X_arg4 k) (rdQ arg3 X_arg3 0) := by
  iterate 7 refine (miss _ _ _ _ _ _ (by decide)).trans ?_
  exact hit ..

theorem tr9_1 (f : BufTy.Contents (Elt F) arg9.view.ty) : rdT arg9 (arg9.view.writes (Elt F) f ((trip_k0_t1.sl.HW_arg9_16 (F := F) arg3 arg4 X_arg3 X_arg4 k))) 1 = cmV (kB arg4 X_arg4 k) (rdQ arg3 X_arg3 1) := by
  iterate 6 refine (miss _ _ _ _ _ _ (by decide)).trans ?_
  exact hit ..

theorem tr9_2 (f : BufTy.Contents (Elt F) arg9.view.ty) : rdT arg9 (arg9.view.writes (Elt F) f ((trip_k0_t1.sl.HW_arg9_16 (F := F) arg3 arg4 X_arg3 X_arg4 k))) 2 = cmV (kB arg4 X_arg4 k) (rdQ arg3 X_arg3 2) := by
  iterate 5 refine (miss _ _ _ _ _ _ (by decide)).trans ?_
  exact hit ..

theorem tr9_3 (f : BufTy.Contents (Elt F) arg9.view.ty) : rdT arg9 (arg9.view.writes (Elt F) f ((trip_k0_t1.sl.HW_arg9_16 (F := F) arg3 arg4 X_arg3 X_arg4 k))) 3 = cmV (kB arg4 X_arg4 k) (rdQ arg3 X_arg3 3) := by
  iterate 4 refine (miss _ _ _ _ _ _ (by decide)).trans ?_
  exact hit ..

theorem tr9_4 (f : BufTy.Contents (Elt F) arg9.view.ty) : rdT arg9 (arg9.view.writes (Elt F) f ((trip_k0_t1.sl.HW_arg9_16 (F := F) arg3 arg4 X_arg3 X_arg4 k))) 4 = cmV (kB arg4 X_arg4 k) (rdQ arg3 X_arg3 4) := by
  iterate 3 refine (miss _ _ _ _ _ _ (by decide)).trans ?_
  exact hit ..

theorem tr9_5 (f : BufTy.Contents (Elt F) arg9.view.ty) : rdT arg9 (arg9.view.writes (Elt F) f ((trip_k0_t1.sl.HW_arg9_16 (F := F) arg3 arg4 X_arg3 X_arg4 k))) 5 = cmV (kB arg4 X_arg4 k) (rdQ arg3 X_arg3 5) := by
  iterate 2 refine (miss _ _ _ _ _ _ (by decide)).trans ?_
  exact hit ..

theorem tr9_6 (f : BufTy.Contents (Elt F) arg9.view.ty) : rdT arg9 (arg9.view.writes (Elt F) f ((trip_k0_t1.sl.HW_arg9_16 (F := F) arg3 arg4 X_arg3 X_arg4 k))) 6 = cmV (kB arg4 X_arg4 k) (rdQ arg3 X_arg3 6) := by
  iterate 1 refine (miss _ _ _ _ _ _ (by decide)).trans ?_
  exact hit ..

theorem tr9_7 (f : BufTy.Contents (Elt F) arg9.view.ty) : rdT arg9 (arg9.view.writes (Elt F) f ((trip_k0_t1.sl.HW_arg9_16 (F := F) arg3 arg4 X_arg3 X_arg4 k))) 7 = cmV (kB arg4 X_arg4 k) (rdQ arg3 X_arg3 7) := by
  exact hit ..

theorem tr10 : (trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.2.1 f_arg8 f_arg9 f_arg10 f_arg11 = ⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11) := by
  unfold trip_k0_t1; rfl

theorem tr10_0 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 0 = acV v8 (vB arg5 X_arg5 k) (mxV (rdM arg8 f_arg8 0) (rdT arg9 f_arg9 0)) (cmV (kA arg4 X_arg4 k) (rdQ arg3 X_arg3 0)) (scV (kA arg4 X_arg4 k) (rdQ arg3 X_arg3 0)) (acV v8 (vA arg5 X_arg5 k) (rdM arg8 f_arg8 0) (rdT arg9 f_arg9 0) (rdS arg11 f_arg11 0) (rdA arg10 f_arg10 0)) := by
  iterate 7 refine (miss _ _ _ _ _ _ (by decide)).trans ?_
  refine (hit ..).trans ?_
  show acV v8 (vB arg5 X_arg5 k) (trip_k0_t1.sl.v764 (F := F) arg8 arg9 f_arg8 f_arg9) (trip_k0_t1.sl.v766 (F := F) arg3 arg4 arg9 X_arg3 X_arg4 k) (trip_k0_t1.sl.v774 (F := F) arg3 arg4 arg11 X_arg3 X_arg4 k) (trip_k0_t1.sl.v780 (F := F) arg5 arg8 arg9 arg10 arg11 v8 X_arg5 k f_arg8 f_arg9 f_arg10 f_arg11) = _
  rw [w_v764, w_v766, w_v774, w_v780]

theorem tr10_1 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 1 = acV v8 (vB arg5 X_arg5 k) (mxV (rdM arg8 f_arg8 1) (rdT arg9 f_arg9 1)) (cmV (kA arg4 X_arg4 k) (rdQ arg3 X_arg3 1)) (scV (kA arg4 X_arg4 k) (rdQ arg3 X_arg3 1)) (acV v8 (vA arg5 X_arg5 k) (rdM arg8 f_arg8 1) (rdT arg9 f_arg9 1) (rdS arg11 f_arg11 1) (rdA arg10 f_arg10 1)) := by
  iterate 6 refine (miss _ _ _ _ _ _ (by decide)).trans ?_
  refine (hit ..).trans ?_
  show acV v8 (vB arg5 X_arg5 k) (trip_k0_t1.sl.v800 (F := F) arg3 arg4 arg8 arg9 X_arg3 X_arg4 k f_arg8 f_arg9) (trip_k0_t1.sl.v802 (F := F) arg3 arg4 arg9 X_arg3 X_arg4 k) (trip_k0_t1.sl.v810 (F := F) arg3 arg4 arg11 X_arg3 X_arg4 k) (trip_k0_t1.sl.v816 (F := F) arg3 arg4 arg5 arg8 arg9 arg10 arg11 v8 X_arg3 X_arg4 X_arg5 k f_arg8 f_arg9 f_arg10 f_arg11) = _
  rw [w_v800, w_v802, w_v810, w_v816]

theorem tr10_2 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 2 = acV v8 (vB arg5 X_arg5 k) (mxV (rdM arg8 f_arg8 2) (rdT arg9 f_arg9 2)) (cmV (kA arg4 X_arg4 k) (rdQ arg3 X_arg3 2)) (scV (kA arg4 X_arg4 k) (rdQ arg3 X_arg3 2)) (acV v8 (vA arg5 X_arg5 k) (rdM arg8 f_arg8 2) (rdT arg9 f_arg9 2) (rdS arg11 f_arg11 2) (rdA arg10 f_arg10 2)) := by
  iterate 5 refine (miss _ _ _ _ _ _ (by decide)).trans ?_
  refine (hit ..).trans ?_
  show acV v8 (vB arg5 X_arg5 k) (trip_k0_t1.sl.v836 (F := F) arg3 arg4 arg8 arg9 X_arg3 X_arg4 k f_arg8 f_arg9) (trip_k0_t1.sl.v838 (F := F) arg3 arg4 arg9 X_arg3 X_arg4 k) (trip_k0_t1.sl.v846 (F := F) arg3 arg4 arg11 X_arg3 X_arg4 k) (trip_k0_t1.sl.v852 (F := F) arg3 arg4 arg5 arg8 arg9 arg10 arg11 v8 X_arg3 X_arg4 X_arg5 k f_arg8 f_arg9 f_arg10 f_arg11) = _
  rw [w_v836, w_v838, w_v846, w_v852]

theorem tr10_3 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 3 = acV v8 (vB arg5 X_arg5 k) (mxV (rdM arg8 f_arg8 3) (rdT arg9 f_arg9 3)) (cmV (kA arg4 X_arg4 k) (rdQ arg3 X_arg3 3)) (scV (kA arg4 X_arg4 k) (rdQ arg3 X_arg3 3)) (acV v8 (vA arg5 X_arg5 k) (rdM arg8 f_arg8 3) (rdT arg9 f_arg9 3) (rdS arg11 f_arg11 3) (rdA arg10 f_arg10 3)) := by
  iterate 4 refine (miss _ _ _ _ _ _ (by decide)).trans ?_
  refine (hit ..).trans ?_
  show acV v8 (vB arg5 X_arg5 k) (trip_k0_t1.sl.v872 (F := F) arg3 arg4 arg8 arg9 X_arg3 X_arg4 k f_arg8 f_arg9) (trip_k0_t1.sl.v874 (F := F) arg3 arg4 arg9 X_arg3 X_arg4 k) (trip_k0_t1.sl.v882 (F := F) arg3 arg4 arg11 X_arg3 X_arg4 k) (trip_k0_t1.sl.v888 (F := F) arg3 arg4 arg5 arg8 arg9 arg10 arg11 v8 X_arg3 X_arg4 X_arg5 k f_arg8 f_arg9 f_arg10 f_arg11) = _
  rw [w_v872, w_v874, w_v882, w_v888]

theorem tr10_4 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 4 = acV v8 (vB arg5 X_arg5 k) (mxV (rdM arg8 f_arg8 4) (rdT arg9 f_arg9 4)) (cmV (kA arg4 X_arg4 k) (rdQ arg3 X_arg3 4)) (scV (kA arg4 X_arg4 k) (rdQ arg3 X_arg3 4)) (acV v8 (vA arg5 X_arg5 k) (rdM arg8 f_arg8 4) (rdT arg9 f_arg9 4) (rdS arg11 f_arg11 4) (rdA arg10 f_arg10 4)) := by
  iterate 3 refine (miss _ _ _ _ _ _ (by decide)).trans ?_
  refine (hit ..).trans ?_
  show acV v8 (vB arg5 X_arg5 k) (trip_k0_t1.sl.v908 (F := F) arg3 arg4 arg8 arg9 X_arg3 X_arg4 k f_arg8 f_arg9) (trip_k0_t1.sl.v910 (F := F) arg3 arg4 arg9 X_arg3 X_arg4 k) (trip_k0_t1.sl.v918 (F := F) arg3 arg4 arg11 X_arg3 X_arg4 k) (trip_k0_t1.sl.v924 (F := F) arg3 arg4 arg5 arg8 arg9 arg10 arg11 v8 X_arg3 X_arg4 X_arg5 k f_arg8 f_arg9 f_arg10 f_arg11) = _
  rw [w_v908, w_v910, w_v918, w_v924]

theorem tr10_5 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 5 = acV v8 (vB arg5 X_arg5 k) (mxV (rdM arg8 f_arg8 5) (rdT arg9 f_arg9 5)) (cmV (kA arg4 X_arg4 k) (rdQ arg3 X_arg3 5)) (scV (kA arg4 X_arg4 k) (rdQ arg3 X_arg3 5)) (acV v8 (vA arg5 X_arg5 k) (rdM arg8 f_arg8 5) (rdT arg9 f_arg9 5) (rdS arg11 f_arg11 5) (rdA arg10 f_arg10 5)) := by
  iterate 2 refine (miss _ _ _ _ _ _ (by decide)).trans ?_
  refine (hit ..).trans ?_
  show acV v8 (vB arg5 X_arg5 k) (trip_k0_t1.sl.v944 (F := F) arg3 arg4 arg8 arg9 X_arg3 X_arg4 k f_arg8 f_arg9) (trip_k0_t1.sl.v946 (F := F) arg3 arg4 arg9 X_arg3 X_arg4 k) (trip_k0_t1.sl.v954 (F := F) arg3 arg4 arg11 X_arg3 X_arg4 k) (trip_k0_t1.sl.v960 (F := F) arg3 arg4 arg5 arg8 arg9 arg10 arg11 v8 X_arg3 X_arg4 X_arg5 k f_arg8 f_arg9 f_arg10 f_arg11) = _
  rw [w_v944, w_v946, w_v954, w_v960]

theorem tr10_6 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 6 = acV v8 (vB arg5 X_arg5 k) (mxV (rdM arg8 f_arg8 6) (rdT arg9 f_arg9 6)) (cmV (kA arg4 X_arg4 k) (rdQ arg3 X_arg3 6)) (scV (kA arg4 X_arg4 k) (rdQ arg3 X_arg3 6)) (acV v8 (vA arg5 X_arg5 k) (rdM arg8 f_arg8 6) (rdT arg9 f_arg9 6) (rdS arg11 f_arg11 6) (rdA arg10 f_arg10 6)) := by
  iterate 1 refine (miss _ _ _ _ _ _ (by decide)).trans ?_
  refine (hit ..).trans ?_
  show acV v8 (vB arg5 X_arg5 k) (trip_k0_t1.sl.v980 (F := F) arg3 arg4 arg8 arg9 X_arg3 X_arg4 k f_arg8 f_arg9) (trip_k0_t1.sl.v982 (F := F) arg3 arg4 arg9 X_arg3 X_arg4 k) (trip_k0_t1.sl.v990 (F := F) arg3 arg4 arg11 X_arg3 X_arg4 k) (trip_k0_t1.sl.v996 (F := F) arg3 arg4 arg5 arg8 arg9 arg10 arg11 v8 X_arg3 X_arg4 X_arg5 k f_arg8 f_arg9 f_arg10 f_arg11) = _
  rw [w_v980, w_v982, w_v990, w_v996]

theorem tr10_7 (f : BufTy.Contents (Elt F) arg10.view.ty) : rdA arg10 (arg10.view.writes (Elt F) f (⟨Rect.unit ![3, 0, 256] S1x80x256.size inb_S4x80x512_S1x80x256_3_0_256, k0_pay166 (trip_k0_t1.sl.r_17 (F := F) arg5 v8 X_arg5 k) (trip_k0_t1.sl.r_30 (F := F) arg3 arg4 arg8 arg9 X_arg3 X_arg4 k f_arg8 f_arg9) (trip_k0_t1.sl.r_31 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11)⟩ :: (trip_k0_t1.sl.HW_arg10_15 (F := F) arg3 arg4 arg5 arg8 arg9 arg10 arg11 v8 X_arg3 X_arg4 X_arg5 k f_arg8 f_arg9 f_arg10 f_arg11))) 7 = acV v8 (vB arg5 X_arg5 k) (mxV (rdM arg8 f_arg8 7) (rdT arg9 f_arg9 7)) (cmV (kA arg4 X_arg4 k) (rdQ arg3 X_arg3 7)) (scV (kA arg4 X_arg4 k) (rdQ arg3 X_arg3 7)) (acV v8 (vA arg5 X_arg5 k) (rdM arg8 f_arg8 7) (rdT arg9 f_arg9 7) (rdS arg11 f_arg11 7) (rdA arg10 f_arg10 7)) := by
  refine (hit ..).trans ?_
  show acV v8 (vB arg5 X_arg5 k) (trip_k0_t1.sl.v1016 (F := F) arg3 arg4 arg8 arg9 X_arg3 X_arg4 k f_arg8 f_arg9) (trip_k0_t1.sl.v1018 (F := F) arg3 arg4 arg9 X_arg3 X_arg4 k) (trip_k0_t1.sl.v1026 (F := F) arg3 arg4 arg11 X_arg3 X_arg4 k) (trip_k0_t1.sl.v1032 (F := F) arg3 arg4 arg5 arg8 arg9 arg10 arg11 v8 X_arg3 X_arg4 X_arg5 k f_arg8 f_arg9 f_arg10 f_arg11) = _
  rw [w_v1016, w_v1018, w_v1026, w_v1032]

theorem tr11 : (trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.2.2.1 f_arg8 f_arg9 f_arg10 f_arg11 = (trip_k0_t1.sl.HW_arg11_16 (F := F) arg3 arg4 X_arg3 X_arg4 k) := by
  unfold trip_k0_t1; rfl

theorem tr11_0 (f : BufTy.Contents (Elt F) arg11.view.ty) : rdS arg11 (arg11.view.writes (Elt F) f ((trip_k0_t1.sl.HW_arg11_16 (F := F) arg3 arg4 X_arg3 X_arg4 k))) 0 = scV (kB arg4 X_arg4 k) (rdQ arg3 X_arg3 0) := by
  iterate 7 refine (miss _ _ _ _ _ _ (by decide)).trans ?_
  exact hit ..

theorem tr11_1 (f : BufTy.Contents (Elt F) arg11.view.ty) : rdS arg11 (arg11.view.writes (Elt F) f ((trip_k0_t1.sl.HW_arg11_16 (F := F) arg3 arg4 X_arg3 X_arg4 k))) 1 = scV (kB arg4 X_arg4 k) (rdQ arg3 X_arg3 1) := by
  iterate 6 refine (miss _ _ _ _ _ _ (by decide)).trans ?_
  exact hit ..

theorem tr11_2 (f : BufTy.Contents (Elt F) arg11.view.ty) : rdS arg11 (arg11.view.writes (Elt F) f ((trip_k0_t1.sl.HW_arg11_16 (F := F) arg3 arg4 X_arg3 X_arg4 k))) 2 = scV (kB arg4 X_arg4 k) (rdQ arg3 X_arg3 2) := by
  iterate 5 refine (miss _ _ _ _ _ _ (by decide)).trans ?_
  exact hit ..

theorem tr11_3 (f : BufTy.Contents (Elt F) arg11.view.ty) : rdS arg11 (arg11.view.writes (Elt F) f ((trip_k0_t1.sl.HW_arg11_16 (F := F) arg3 arg4 X_arg3 X_arg4 k))) 3 = scV (kB arg4 X_arg4 k) (rdQ arg3 X_arg3 3) := by
  iterate 4 refine (miss _ _ _ _ _ _ (by decide)).trans ?_
  exact hit ..

theorem tr11_4 (f : BufTy.Contents (Elt F) arg11.view.ty) : rdS arg11 (arg11.view.writes (Elt F) f ((trip_k0_t1.sl.HW_arg11_16 (F := F) arg3 arg4 X_arg3 X_arg4 k))) 4 = scV (kB arg4 X_arg4 k) (rdQ arg3 X_arg3 4) := by
  iterate 3 refine (miss _ _ _ _ _ _ (by decide)).trans ?_
  exact hit ..

theorem tr11_5 (f : BufTy.Contents (Elt F) arg11.view.ty) : rdS arg11 (arg11.view.writes (Elt F) f ((trip_k0_t1.sl.HW_arg11_16 (F := F) arg3 arg4 X_arg3 X_arg4 k))) 5 = scV (kB arg4 X_arg4 k) (rdQ arg3 X_arg3 5) := by
  iterate 2 refine (miss _ _ _ _ _ _ (by decide)).trans ?_
  exact hit ..

theorem tr11_6 (f : BufTy.Contents (Elt F) arg11.view.ty) : rdS arg11 (arg11.view.writes (Elt F) f ((trip_k0_t1.sl.HW_arg11_16 (F := F) arg3 arg4 X_arg3 X_arg4 k))) 6 = scV (kB arg4 X_arg4 k) (rdQ arg3 X_arg3 6) := by
  iterate 1 refine (miss _ _ _ _ _ _ (by decide)).trans ?_
  exact hit ..

theorem tr11_7 (f : BufTy.Contents (Elt F) arg11.view.ty) : rdS arg11 (arg11.view.writes (Elt F) f ((trip_k0_t1.sl.HW_arg11_16 (F := F) arg3 arg4 X_arg3 X_arg4 k))) 7 = scV (kB arg4 X_arg4 k) (rdQ arg3 X_arg3 7) := by
  exact hit ..

end Cert.KernelIdeal.Body

end
-- ==== Proof.Loop.lean ====
/-
  The attention's counted loop, part by part: after `n` trips the running maxima and the accumulators are those of the
  first `2 n` key blocks, and slot 0 holds the scores of block `2 n`.
-/
module

public import proofs.«01_k».proof.Proof.Trip

@[expose] public section

set_option maxRecDepth 16384

noncomputable section

namespace Cert.KernelIdeal.Body

open Cert.KernelIdeal Cert.KernelIdeal.Gen
open Idealize.ShloMosaic Idealize.ShloMosaic.TcCoe

section
variable {F : FTy → Type} [FloatOps F]

/-- The running maxima after `n` key blocks. -/
def stM (K : ℕ → Vec F S1x1x1280x256 .fp8e4m3) (q : Vec F S1x256x256 .fp8e4m3) : ℕ → Vec F S1x1x256 .f32
  | 0 => constant S1x1x256 .f32 0xFF800000#32
  | n + 1 => mxV (stM K q n) (cmV (K n) q)

/-- The accumulator after `n` key blocks. -/
def stA (v8 : FVec F S16x1280 .bf16) (K : ℕ → Vec F S1x1x1280x256 .fp8e4m3) (V : ℕ → Vec F S1x64x1280 .bf16) (q : Vec F S1x256x256 .fp8e4m3) : ℕ → Vec F S1x80x256 .f32
  | 0 => constant S1x80x256 .f32 0x00000000#32
  | n + 1 => acV v8 (V n) (stM K q n) (cmV (K n) q) (scV (K n) q) (stA v8 K V q n)

end

variable {F : FTy → Type} [FloatOps F]
variable (𝒱 : Variants) (c : Dev nD) (bd : Option 𝒱.V) (i : grid0.Coords)
  (arg3 : Memref sig .tc .vmem S1x1024x512 .fp8e4m3) (harg3 : arg3.IsWhole) (arg4 : Memref sig .tc .vmem S1x1x16640x256 .fp8e4m3) (harg4 : arg4.IsWhole)
  (arg5 : Memref sig .tc .vmem S1x64x16640 .bf16) (harg5 : arg5.IsWhole) (arg6 : Memref sig .tc .vmem S1x512x256 .bf16) (harg6 : arg6.IsWhole)
  (arg7 : Memref sig .tc .vmem S1x512x256 .bf16) (harg7 : arg7.IsWhole) (arg8 : Memref sig .tc .vmem S4x1x512 .f32) (harg8 : arg8.IsWhole)
  (arg9 : Memref sig .tc .vmem S2x4x1x512 .f32) (harg9 : arg9.IsWhole) (arg10 : Memref sig .tc .vmem S4x80x512 .f32) (harg10 : arg10.IsWhole)
  (arg11 : Memref sig .tc .vmem S2x4x1280x512 .f32) (harg11 : arg11.IsWhole) (v8 : FVec F S16x1280 .bf16) (c0_i32 : BitVec 32)
  (X_arg3 : BufTy.Contents (Elt F) arg3.view.ty) (X_arg4 : BufTy.Contents (Elt F) arg4.view.ty) (X_arg5 : BufTy.Contents (Elt F) arg5.view.ty)

/-- Key block `n`, the last one from block 12 on. -/
abbrev kn (n : ℕ) : Vec F S1x1x1280x256 .fp8e4m3 := rdK arg4 X_arg4 ⟨min n 12, by omega⟩
/-- Value block `n`, the last one from block 12 on. -/
abbrev vn (n : ℕ) : Vec F S1x64x1280 .bf16 := rdV arg5 X_arg5 ⟨min n 12, by omega⟩

theorem kA_eq (k : Fin k0_t1_loop.trips) : kA arg4 X_arg4 k = kn arg4 X_arg4 (2 * k.val + 1) :=
  readAt_off _ _ _ _ _ _ _ (by revert k; decide +kernel)
theorem kB_eq (k : Fin k0_t1_loop.trips) : kB arg4 X_arg4 k = kn arg4 X_arg4 (2 * k.val + 2) :=
  readAt_off _ _ _ _ _ _ _ (by revert k; decide +kernel)
theorem vA_eq (k : Fin k0_t1_loop.trips) : vA arg5 X_arg5 k = vn arg5 X_arg5 (2 * k.val) :=
  readAt_off _ _ _ _ _ _ _ (by revert k; decide +kernel)
theorem vB_eq (k : Fin k0_t1_loop.trips) : vB arg5 X_arg5 k = vn arg5 X_arg5 (2 * k.val + 1) :=
  readAt_off _ _ _ _ _ _ _ (by revert k; decide +kernel)

section
variable (k : Fin k0_t1_loop.trips)
  (f_arg8 : BufTy.Contents (Elt F) arg8.view.ty) (f_arg9 : BufTy.Contents (Elt F) arg9.view.ty) (f_arg10 : BufTy.Contents (Elt F) arg10.view.ty)
  (f_arg11 : BufTy.Contents (Elt F) arg11.view.ty)

/-- The running maxima after a trip. -/
theorem trip8 (f : BufTy.Contents (Elt F) arg8.view.ty) (p : Fin 8) :
    rdM arg8 (arg8.view.writes (Elt F) f ((trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).1 f_arg8 f_arg9 f_arg10 f_arg11)) p = mxV (mxV (rdM arg8 f_arg8 p) (rdT arg9 f_arg9 p)) (cmV (kA arg4 X_arg4 k) (rdQ arg3 X_arg3 p)) := by
  rw [tr8]
  match p with
  | 0 => exact tr8_0 ..
  | 1 => exact tr8_1 ..
  | 2 => exact tr8_2 ..
  | 3 => exact tr8_3 ..
  | 4 => exact tr8_4 ..
  | 5 => exact tr8_5 ..
  | 6 => exact tr8_6 ..
  | 7 => exact tr8_7 ..

/-- The next block's column maxima after a trip. -/
theorem trip9 (f : BufTy.Contents (Elt F) arg9.view.ty) (p : Fin 8) :
    rdT arg9 (arg9.view.writes (Elt F) f ((trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.1 f_arg8 f_arg9 f_arg10 f_arg11)) p = cmV (kB arg4 X_arg4 k) (rdQ arg3 X_arg3 p) := by
  rw [tr9]
  match p with
  | 0 => exact tr9_0 ..
  | 1 => exact tr9_1 ..
  | 2 => exact tr9_2 ..
  | 3 => exact tr9_3 ..
  | 4 => exact tr9_4 ..
  | 5 => exact tr9_5 ..
  | 6 => exact tr9_6 ..
  | 7 => exact tr9_7 ..

/-- The accumulators after a trip. -/
theorem trip10 (f : BufTy.Contents (Elt F) arg10.view.ty) (p : Fin 8) :
    rdA arg10 (arg10.view.writes (Elt F) f ((trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.2.1 f_arg8 f_arg9 f_arg10 f_arg11)) p = acV v8 (vB arg5 X_arg5 k) (mxV (rdM arg8 f_arg8 p) (rdT arg9 f_arg9 p)) (cmV (kA arg4 X_arg4 k) (rdQ arg3 X_arg3 p)) (scV (kA arg4 X_arg4 k) (rdQ arg3 X_arg3 p)) (acV v8 (vA arg5 X_arg5 k) (rdM arg8 f_arg8 p) (rdT arg9 f_arg9 p) (rdS arg11 f_arg11 p) (rdA arg10 f_arg10 p)) := by
  rw [tr10]
  match p with
  | 0 => exact tr10_0 ..
  | 1 => exact tr10_1 ..
  | 2 => exact tr10_2 ..
  | 3 => exact tr10_3 ..
  | 4 => exact tr10_4 ..
  | 5 => exact tr10_5 ..
  | 6 => exact tr10_6 ..
  | 7 => exact tr10_7 ..

/-- The next block's scores after a trip. -/
theorem trip11 (f : BufTy.Contents (Elt F) arg11.view.ty) (p : Fin 8) :
    rdS arg11 (arg11.view.writes (Elt F) f ((trip_k0_t1 (F := F) 𝒱 c bd i arg3 harg3 arg4 harg4 arg5 harg5 arg6 harg6 arg7 harg7 arg8 harg8 arg9 harg9 arg10 harg10 arg11 harg11 v8 c0_i32 X_arg3 X_arg4 X_arg5 k).2.2.2.1 f_arg8 f_arg9 f_arg10 f_arg11)) p = scV (kB arg4 X_arg4 k) (rdQ arg3 X_arg3 p) := by
  rw [tr11]
  match p with
  | 0 => exact tr11_0 ..
  | 1 => exact tr11_1 ..
  | 2 => exact tr11_2 ..
  | 3 => exact tr11_3 ..
  | 4 => exact tr11_4 ..
  | 5 => exact tr11_5 ..
  | 6 => exact tr11_6 ..
  | 7 => exact tr11_7 ..

end

section
variable (G8 : BufTy.Contents (Elt F) arg8.view.ty) (G9 : BufTy.Contents (Elt F) arg9.view.ty) (G10 : BufTy.Contents (Elt F) arg10.view.ty) (G11 : BufTy.Contents (Elt F) arg11.view.ty)

/-- What the four buffers hold of part `p` after `2 n` key blocks. -/
structure Holds (n : ℕ) (f8 : BufTy.Contents (Elt F) arg8.view.ty) (f9 : BufTy.Contents (Elt F) arg9.view.ty) (f10 : BufTy.Contents (Elt F) arg10.view.ty) (f11 : BufTy.Contents (Elt F) arg11.view.ty) : Prop where
  hM : ∀ p, rdM arg8 f8 p = stM (kn arg4 X_arg4) (rdQ arg3 X_arg3 p) (2 * n)
  hT : ∀ p, rdT arg9 f9 p = cmV (kn arg4 X_arg4 (2 * n)) (rdQ arg3 X_arg3 p)
  hA : ∀ p, rdA arg10 f10 p = stA v8 (kn arg4 X_arg4) (vn arg5 X_arg5) (rdQ arg3 X_arg3 p) (2 * n)
  hS : ∀ p, rdS arg11 f11 p = scV (kn arg4 X_arg4 (2 * n)) (rdQ arg3 X_arg3 p)

/-- One more trip. -/
theorem holds_succ (n : ℕ) (hn : n < 6) (h : Holds arg3 arg4 arg5 arg8 arg9 arg10 arg11 v8 X_arg3 X_arg4 X_arg5 n (arg8.view.writes (Elt F) G8 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).1) (arg9.view.writes (Elt F) G9 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.1) (arg10.view.writes (Elt F) G10 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.2.1) (arg11.view.writes (Elt F) G11 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.2.2))
    (Z8 : BufTy.Contents (Elt F) arg8.view.ty) (Z9 : BufTy.Contents (Elt F) arg9.view.ty) (Z10 : BufTy.Contents (Elt F) arg10.view.ty) (Z11 : BufTy.Contents (Elt F) arg11.view.ty) :
    Holds arg3 arg4 arg5 arg8 arg9 arg10 arg11 v8 X_arg3 X_arg4 X_arg5 (n + 1) (arg8.view.writes (Elt F) Z8 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 (n + 1)).1) (arg9.view.writes (Elt F) Z9 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 (n + 1)).2.1) (arg10.view.writes (Elt F) Z10 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 (n + 1)).2.2.1) (arg11.view.writes (Elt F) Z11 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 (n + 1)).2.2.2) := by
  have hk : n < k0_t1_loop.trips := hn
  obtain ⟨h8, h9, h10, h11⟩ := h
  have e := pb_k0_t1_succ (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 ⟨n, hk⟩
  refine ⟨fun p => ?_, fun p => ?_, fun p => ?_, fun p => ?_⟩
  · refine (congrArg (fun l => rdM arg8 (arg8.view.writes (Elt F) Z8 l.1) p) e).trans ?_
    refine (congrArg (fun g => rdM arg8 g p) (View.writes_append ..)).trans ?_
    refine (trip8 ..).trans ?_
    rw [h8, h9, kA_eq]; rfl
  · refine (congrArg (fun l => rdT arg9 (arg9.view.writes (Elt F) Z9 l.2.1) p) e).trans ?_
    refine (congrArg (fun g => rdT arg9 g p) (View.writes_append ..)).trans ?_
    refine (trip9 ..).trans ?_
    rw [kB_eq]; rfl
  · refine (congrArg (fun l => rdA arg10 (arg10.view.writes (Elt F) Z10 l.2.2.1) p) e).trans ?_
    refine (congrArg (fun g => rdA arg10 g p) (View.writes_append ..)).trans ?_
    refine (trip10 ..).trans ?_
    rw [h8, h9, h10, h11, kA_eq, vA_eq, vB_eq]; rfl
  · refine (congrArg (fun l => rdS arg11 (arg11.view.writes (Elt F) Z11 l.2.2.2) p) e).trans ?_
    refine (congrArg (fun g => rdS arg11 g p) (View.writes_append ..)).trans ?_
    refine (trip11 ..).trans ?_
    rw [kB_eq]; rfl

/-- Before trip `n`, from the state at loop entry. -/
theorem holds_pb (h : Holds arg3 arg4 arg5 arg8 arg9 arg10 arg11 v8 X_arg3 X_arg4 X_arg5 0 G8 G9 G10 G11) (n : ℕ) (hn : n ≤ 6) :
    Holds arg3 arg4 arg5 arg8 arg9 arg10 arg11 v8 X_arg3 X_arg4 X_arg5 n (arg8.view.writes (Elt F) G8 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).1) (arg9.view.writes (Elt F) G9 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.1) (arg10.view.writes (Elt F) G10 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.2.1) (arg11.view.writes (Elt F) G11 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 n).2.2.2) := by
  induction n with
  | zero => exact h
  | succ n ih => exact holds_succ (hn := hn) (h := ih (by omega)) ..

/-- After the six trips, over any contents. -/
theorem holds_six (h : Holds arg3 arg4 arg5 arg8 arg9 arg10 arg11 v8 X_arg3 X_arg4 X_arg5 0 G8 G9 G10 G11)
    (Z8 : BufTy.Contents (Elt F) arg8.view.ty) (Z9 : BufTy.Contents (Elt F) arg9.view.ty) (Z10 : BufTy.Contents (Elt F) arg10.view.ty) (Z11 : BufTy.Contents (Elt F) arg11.view.ty) :
    Holds arg3 arg4 arg5 arg8 arg9 arg10 arg11 v8 X_arg3 X_arg4 X_arg5 6 (arg8.view.writes (Elt F) Z8 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 6).1) (arg9.view.writes (Elt F) Z9 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 6).2.1) (arg10.view.writes (Elt F) Z10 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 6).2.2.1) (arg11.view.writes (Elt F) Z11 (pb_k0_t1 (F := F) 𝒱 c bd i arg3 harg3 arg4 harg4 arg5 harg5 arg6 harg6 arg7 harg7 arg8 harg8 arg9 harg9 arg10 harg10 arg11 harg11 v8 c0_i32 X_arg3 X_arg4 X_arg5 G8 G9 G10 G11 6).2.2.2) :=
  holds_succ (hn := by omega) (h := holds_pb (h := h) (hn := by omega) ..) ..

end

end Cert.KernelIdeal.Body

end
-- ==== Proof.Softmax.lean ====
/-
  The mathematics of the attention's softmax over the extended reals: a running maximum and a rescaled accumulator over
  blocks of 1280 keys, in powers of two, against one softmax over all keys in powers of e.
-/
module

public import Idealize.ShloMosaic.Lib.Pointwise
public import Mathlib.Analysis.SpecialFunctions.Pow.Real

@[expose] public section

noncomputable section

namespace Softmax

open Idealize.ShloMosaic

/-- The word of minus infinity. -/
theorem ofBits_ninf : Ideal.ofBits .f32 0xFF800000#32 = ⊥ := by
  simp [Ideal.ofBits, Ideal.ieee]

/-- The word of two. -/
theorem ofBits_two : Ideal.ofBits .f32 0x40000000#32 = ((2 : ℝ) : EReal) := by
  simp [Ideal.ofBits, Ideal.ieee]
  rw [← EReal.coe_mul]; norm_num

/-- The running maximum after `j` blocks. -/
def kM (s : ℕ → EReal) : ℕ → EReal
  | 0 => ⊥
  | j + 1 => max (kM s j) (Finset.univ.fold max ⊥ fun u : Fin 1280 => s (1280 * j + u.val))

/-- The accumulator after `j` blocks. -/
def kA (s v : ℕ → EReal) : ℕ → EReal
  | 0 => 0
  | j + 1 => Ideal.exp2 (kM s j - kM s (j + 1)) * kA s v j
      + ∑ u : Fin 1280, v (1280 * j + u.val) * Ideal.exp2 (s (1280 * j + u.val) - kM s (j + 1))

/-- The running maximum is the greatest score so far. -/
theorem kM_eq (s : ℕ → EReal) (j : ℕ) : kM s j = (Finset.range (1280 * j)).sup s := by
  induction j with
  | zero => simp [kM]
  | succ j ih =>
    have e : (Finset.univ.fold max ⊥ fun u : Fin 1280 => s (1280 * j + u.val)) = Finset.univ.sup fun u : Fin 1280 => s (1280 * j + u.val) := rfl
    rw [kM, ih, e]
    apply le_antisymm
    · refine max_le (Finset.sup_mono fun n hn => ?_) (Finset.sup_le fun u _ => Finset.le_sup (f := s) ?_)
      · simp only [Finset.mem_range] at hn ⊢; omega
      · simp only [Finset.mem_range]; omega
    · refine Finset.sup_le fun n hn => ?_
      simp only [Finset.mem_range] at hn
      by_cases h : n < 1280 * j
      · exact le_max_of_le_left (Finset.le_sup (f := s) (Finset.mem_range.mpr h))
      · refine le_max_of_le_right ?_
        have := Finset.le_sup (f := fun u : Fin 1280 => s (1280 * j + u.val)) (Finset.mem_univ (⟨n - 1280 * j, by omega⟩ : Fin 1280))
        simpa only [show 1280 * j + (n - 1280 * j) = n by omega] using this

/-- From the first block on it is one of the scores. -/
theorem kM_real (S : ℕ → ℝ) (j : ℕ) (hj : 0 < j) : ∃ M : ℝ, kM (fun n => (S n : EReal)) j = (M : EReal) := by
  rw [kM_eq]
  obtain ⟨i, _, h⟩ := Finset.exists_mem_eq_sup (Finset.range (1280 * j)) ⟨0, Finset.mem_range.mpr (by omega)⟩ fun n => (S n : EReal)
  exact ⟨S i, h⟩

/-- A power of two of a difference of reals. -/
theorem exp2_sub (a b : ℝ) : Ideal.exp2 ((a : EReal) - (b : EReal)) = ((2 : ℝ) ^ (a - b) : ℝ) := by
  rw [← EReal.coe_sub]; rfl

/-- A power of e of a difference of reals. -/
theorem exp_sub (a b : ℝ) : Ideal.exp ((a : EReal) - (b : EReal)) = (Real.exp (a - b) : ℝ) := by
  rw [← EReal.coe_sub]; rfl

/-- A nonnegative real times a finite sum. -/
theorem real_mul_sum {ι : Type} (t : Finset ι) (c : ℝ) (hc : 0 ≤ c) (f : ι → EReal) : (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.mpr hc) (EReal.coe_ne_top c), ih]

/-- The accumulator is the sum over all keys so far, each weighed below the running maximum. -/
theorem kA_eq (S : ℕ → ℝ) (v : ℕ → EReal) (j : ℕ) (hj : 0 < j) :
    kA (fun n => (S n : EReal)) v j = ∑ n ∈ Finset.range (1280 * j), v n * Ideal.exp2 ((S n : EReal) - kM (fun n => (S n : EReal)) j) := by
  induction j with
  | zero => omega
  | succ j ih =>
    rw [kA, Nat.mul_succ, Finset.sum_range_add, ← Fin.sum_univ_eq_sum_range (fun u => v (1280 * j + u) * Ideal.exp2 ((S (1280 * j + u) : EReal) - kM (fun n => (S n : EReal)) (j + 1))) 1280]
    refine congrArg₂ (· + ·) ?_ rfl
    rcases Nat.eq_zero_or_pos j with rfl | h
    · simp [kA]
    · obtain ⟨M, hM⟩ := kM_real S j h
      obtain ⟨M', hM'⟩ := kM_real S (j + 1) (by omega)
      rw [ih h, hM, hM', exp2_sub, real_mul_sum _ _ (by positivity)]
      refine Finset.sum_congr rfl fun n _ => ?_
      rw [exp2_sub, exp2_sub, mul_left_comm, ← EReal.coe_mul, ← Real.rpow_add (by norm_num)]
      congr 3; ring

/-- THE SOFTMAX: the blocked accumulator divided by its own sum of weights is the softmax's weighted sum. -/
theorem softmax_eq (S : ℕ → ℝ) (v : ℕ → EReal) (S' : Fin 16640 → EReal) (hS : ∀ n : Fin 16640, S' n = (S n.val : EReal) * Ideal.log (Ideal.ofBits .f32 0x40000000#32)) :
    Ideal.div (kA (fun n => (S n : EReal)) v 13) (kA (fun n => (S n : EReal)) (fun _ => 1) 13)
      = ∑ n : Fin 16640, v n.val * Ideal.div
          (Ideal.exp (S' n - max (Ideal.ofBits .f32 0xFF800000#32) (Finset.univ.fold max (Ideal.ofBits .f32 0xFF800000#32) S')))
          (∑ x : Fin 16640, Ideal.exp (S' x - max (Ideal.ofBits .f32 0xFF800000#32) (Finset.univ.fold max (Ideal.ofBits .f32 0xFF800000#32) S'))) := by
  obtain ⟨M, hM⟩ := kM_real S 13 (by omega)
  have hlog : Ideal.log (Ideal.ofBits .f32 0x40000000#32) = (Real.log 2 : ℝ) := by
    rw [ofBits_two]; show (if (2 : ℝ) ≤ 0 then (⊥ : EReal) else (Real.log 2 : ℝ)) = _; rw [if_neg (by norm_num)]
  have hl : 0 < Real.log 2 := Real.log_pos (by norm_num)
  have hS' : ∀ n : Fin 16640, S' n = ((S n.val * Real.log 2 : ℝ) : EReal) := fun n => by rw [hS, hlog, EReal.coe_mul]
  have hmax : max (Ideal.ofBits .f32 0xFF800000#32) (Finset.univ.fold max (Ideal.ofBits .f32 0xFF800000#32) S') = ((M * Real.log 2 : ℝ) : EReal) := by
    rw [ofBits_ninf, max_eq_right bot_le]
    show Finset.univ.sup S' = _
    have hle : ∀ n < 16640, S n ≤ M := fun n hn => by
      have : ((S n : ℝ) : EReal) ≤ kM (fun n => (S n : EReal)) 13 := by
        rw [kM_eq]; exact Finset.le_sup (f := fun n => (S n : EReal)) (Finset.mem_range.mpr hn)
      rw [hM] at this; exact EReal.coe_le_coe_iff.mp this
    apply le_antisymm
    · refine Finset.sup_le fun n _ => ?_
      rw [hS']; exact EReal.coe_le_coe_iff.mpr (mul_le_mul_of_nonneg_right (hle _ n.isLt) hl.le)
    · obtain ⟨i, hi, h⟩ := Finset.exists_mem_eq_sup (Finset.range (1280 * 13)) ⟨0, Finset.mem_range.mpr (by omega)⟩ fun n => (S n : EReal)
      rw [kM_eq, h] at hM
      have hi' := Finset.mem_range.mp hi
      have hMi : S i = M := EReal.coe_eq_coe_iff.mp hM
      have := Finset.le_sup (f := S') (Finset.mem_univ (⟨i, hi'⟩ : Fin 16640))
      rw [hS'] at this; rwa [← hMi]
  have hE : ∀ n : Fin 16640, Ideal.exp (S' n - ((M * Real.log 2 : ℝ) : EReal)) = ((2 : ℝ) ^ (S n.val - M) : ℝ) := fun n => by
    rw [hS', exp_sub, Real.rpow_def_of_pos (by norm_num)]
    exact congrArg (fun x : ℝ => ((Real.exp x : ℝ) : EReal)) (by ring)
  have hA : ∀ w : ℕ → EReal, kA (fun n => (S n : EReal)) w 13 = ∑ n : Fin 16640, w n.val * (((2 : ℝ) ^ (S n.val - M) : ℝ) : EReal) := fun w => by
    rw [kA_eq S w 13 (by omega), hM, show 1280 * 13 = 16640 from rfl, ← Fin.sum_univ_eq_sum_range (fun n => w n * Ideal.exp2 ((S n : EReal) - (M : EReal))) 16640]
    exact Finset.sum_congr rfl fun n _ => by rw [exp2_sub]
  have hL : (∑ n : Fin 16640, (((2 : ℝ) ^ (S n.val - M) : ℝ) : EReal)) = ((∑ n : Fin 16640, (2 : ℝ) ^ (S n.val - M) : ℝ) : EReal) :=
    (map_sum (⟨⟨Real.toEReal, EReal.coe_zero⟩, EReal.coe_add⟩ : ℝ →+ EReal) _ _).symm
  have hpos : 0 < ∑ n : Fin 16640, (2 : ℝ) ^ (S n.val - M) := Finset.sum_pos (fun n _ => by positivity) ⟨0, Finset.mem_univ _⟩
  rw [hmax]
  simp only [hE, hA, one_mul, hL]
  generalize (∑ n : Fin 16640, (2 : ℝ) ^ (S n.val - M)) = L at hpos
  have hdiv : ∀ x : EReal, Ideal.div x (L : EReal) = ((L⁻¹ : ℝ) : EReal) * x := fun x => by
    rw [Ideal.div, if_neg (by exact_mod_cast hpos.ne'), ← EReal.coe_inv, mul_comm]
  rw [hdiv, real_mul_sum _ _ (inv_nonneg.mpr hpos.le)]
  exact Finset.sum_congr rfl fun n _ => by rw [hdiv, mul_left_comm]

end Softmax

end
-- ==== Proof.Pure.lean ====
/-
  The attention body's vectors read at an index, over the extended reals, and its running maxima and accumulators as those
  of the blockwise softmax.
-/
module

public import proofs.«01_k».proof.Proof.Loop
public import proofs.«01_k».proof.Proof.Softmax
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

/-- The new maximum of a column. -/
theorem mxV_at (m : Vec Ideal S1x1x256 .f32) (t : Vec Ideal S1x1x1x256 .f32) (r : Fin 256) :
    mxV m t (ix3 0 0 r) = max (m (ix3 0 0 r)) (t (ix4 0 0 0 r)) := by
  pointwise [k0_pay77, k0_pay76, k0_pay75]

/-- A score: the product of a key row and a query column. -/
theorem scV_at (kb : Vec Ideal S1x1x1280x256 .fp8e4m3) (q : Vec Ideal S1x256x256 .fp8e4m3) (u : Fin 1280) (r : Fin 256) :
    scV kb q (ix4 0 0 u r) = ∑ k : Fin 256, kb (ix4 0 0 u k) * q (ix3 0 k r) := by
  pointwise [k0_pay170, k0_pay169, k0_pay167]

/-- The greatest score of a block in a column. -/
theorem cmV_at (kb : Vec Ideal S1x1x1280x256 .fp8e4m3) (q : Vec Ideal S1x256x256 .fp8e4m3) (r : Fin 256) :
    cmV kb q (ix4 0 0 0 r) = Finset.univ.fold max ⊥ fun u : Fin 1280 => ∑ k : Fin 256, kb (ix4 0 0 u k) * q (ix3 0 k r) := by
  rw [← Softmax.ofBits_ninf]
  pointwise [k0_pay171, k0_pay169, k0_pay167]

/-- The new accumulator: the old one rescaled, and the block's values (row 64 on: ones) times their weights. -/
theorem acV_at (vb : Vec Ideal S1x64x1280 .bf16) (m : Vec Ideal S1x1x256 .f32) (t : Vec Ideal S1x1x1x256 .f32) (s : Vec Ideal S1x1x1280x256 .f32) (a : Vec Ideal S1x80x256 .f32) (d : Fin 80) (r : Fin 256) :
    acV k0_pay136 vb m t s a (ix3 0 d r) = Ideal.exp2 (m (ix3 0 0 r) - max (m (ix3 0 0 r)) (t (ix4 0 0 0 r))) * a (ix3 0 d r)
      + ∑ x : Fin 1280, (if h : d.val < 64 then vb (ix3 0 ⟨d.val, h⟩ x) else 1) * Ideal.exp2 (s (ix4 0 0 x r) - max (m (ix3 0 0 r)) (t (ix4 0 0 0 r))) := by
  pointwise [k0_pay78, k0_pay76, k0_pay75, k0_pay3, k0_pay136]
  try rfl

/-- The output block: each head's accumulator over its row of sums, times the gate. -/
theorem out_at (v393 : Vec Ideal S1x64x512 .f32) (v395 : Vec Ideal S1x1x512 .f32) (v399 : Vec Ideal S1x64x512 .f32) (v401 : Vec Ideal S1x1x512 .f32) (v405 : Vec Ideal S1x64x512 .f32) (v407 : Vec Ideal S1x1x512 .f32) (v411 : Vec Ideal S1x64x512 .f32) (v413 : Vec Ideal S1x1x512 .f32) (z : Vec Ideal S1x512x256 .bf16) (A : Fin 4 → Fin 80 → Fin 512 → EReal)
    (hv393 : ∀ (d : Fin 64) (r : Fin 512), v393 (ix3 0 d r) = A 0 ⟨d.val, by omega⟩ r) (hv395 : ∀ r : Fin 512, v395 (ix3 0 0 r) = A 0 64 r) (hv399 : ∀ (d : Fin 64) (r : Fin 512), v399 (ix3 0 d r) = A 1 ⟨d.val, by omega⟩ r) (hv401 : ∀ r : Fin 512, v401 (ix3 0 0 r) = A 1 64 r) (hv405 : ∀ (d : Fin 64) (r : Fin 512), v405 (ix3 0 d r) = A 2 ⟨d.val, by omega⟩ r) (hv407 : ∀ r : Fin 512, v407 (ix3 0 0 r) = A 2 64 r) (hv411 : ∀ (d : Fin 64) (r : Fin 512), v411 (ix3 0 d r) = A 3 ⟨d.val, by omega⟩ r) (hv413 : ∀ r : Fin 512, v413 (ix3 0 0 r) = A 3 64 r)
    (r : Fin 512) (c : Fin 256) :
    k0_pay1 (k0_pay233 v393 v395 v399 v401 v405 v407 v411 v413) z (ix3 0 r c)
      = Ideal.div (A ⟨c.val / 64, by omega⟩ ⟨c.val % 64, by omega⟩ r) (A ⟨c.val / 64, by omega⟩ 64 r) * (z (ix3 0 r c) * Ideal.div 1 (1 + Ideal.exp (-z (ix3 0 r c)))) := by
  pointwise [k0_pay1, k0_pay233]
  split_ifs
  all_goals first
    | (rw [hv393, hv395, zero_sub, show (⟨c.val / 64, by omega⟩ : Fin 4) = 0 from Fin.ext (by show c.val / 64 = 0; omega)]
       exact congrArg (fun d => Ideal.div (A 0 d r) (A 0 64 r) * _) (Fin.ext (by show _ = c.val % 64; (try simp only); omega)))
    | (rw [hv399, hv401, zero_sub, show (⟨c.val / 64, by omega⟩ : Fin 4) = 1 from Fin.ext (by show c.val / 64 = 1; omega)]
       exact congrArg (fun d => Ideal.div (A 1 d r) (A 1 64 r) * _) (Fin.ext (by show _ = c.val % 64; (try simp only); omega)))
    | (rw [hv405, hv407, zero_sub, show (⟨c.val / 64, by omega⟩ : Fin 4) = 2 from Fin.ext (by show c.val / 64 = 2; omega)]
       exact congrArg (fun d => Ideal.div (A 2 d r) (A 2 64 r) * _) (Fin.ext (by show _ = c.val % 64; (try simp only); omega)))
    | (rw [hv411, hv413, zero_sub, show (⟨c.val / 64, by omega⟩ : Fin 4) = 3 from Fin.ext (by show c.val / 64 = 3; omega)]
       exact congrArg (fun d => Ideal.div (A 3 d r) (A 3 64 r) * _) (Fin.ext (by show _ = c.val % 64; (try simp only); omega)))

/-- A key of a block is one of the keys. -/
theorem key_lt {j : ℕ} (hj : j < 13) (u : Fin 1280) : 1280 * j + u.val < 16640 := by omega

/-- A row of a head's queries is one of the group's rows. -/
theorem row_lt (h : Fin 4) (k : Fin 256) : 256 * h.val + k.val < 1024 := by omega

section
variable (x0 : Vec Ideal S1x1024x512 .fp8e4m3) (x1 : Vec Ideal S1x1x16640x256 .fp8e4m3) (x2 : Vec Ideal S1x64x16640 .bf16)

/-- The score of key `n` for head `h` and query column `r` of a block. -/
def sco (h : Fin 4) (r : Fin 512) (n : ℕ) : EReal :=
  if hn : n < 16640 then ∑ k : Fin 256, x1 (ix4 0 0 ⟨n, hn⟩ k) * x0 (ix3 0 ⟨256 * h.val + k.val, row_lt h k⟩ r) else 0

/-- Row `d` of key `n`'s values: the values, then ones. -/
def val (d : Fin 80) (n : ℕ) : EReal :=
  if hd : d.val < 64 then (if hn : n < 16640 then x2 (ix3 0 ⟨d.val, hd⟩ ⟨n, hn⟩) else 0) else 1

variable (K : ℕ → Vec Ideal S1x1x1280x256 .fp8e4m3) (V : ℕ → Vec Ideal S1x64x1280 .bf16) (q : Vec Ideal S1x256x256 .fp8e4m3)
  (h : Fin 4) (r : Fin 512) (r' : Fin 256)
  (hK : ∀ (j : ℕ) (hj : j < 13) (u : Fin 1280) (k : Fin 256), K j (ix4 0 0 u k) = x1 (ix4 0 0 ⟨1280 * j + u.val, key_lt hj u⟩ k))
  (hV : ∀ (j : ℕ) (hj : j < 13) (d : Fin 64) (u : Fin 1280), V j (ix3 0 d u) = x2 (ix3 0 d ⟨1280 * j + u.val, key_lt hj u⟩))
  (hq : ∀ k : Fin 256, q (ix3 0 k r') = x0 (ix3 0 ⟨256 * h.val + k.val, row_lt h k⟩ r))

include hK hq in
/-- The scores of block `j`. -/
theorem sc_sco (j : ℕ) (hj : j < 13) (u : Fin 1280) :
    ∑ k : Fin 256, K j (ix4 0 0 u k) * q (ix3 0 k r') = sco x0 x1 h r (1280 * j + u.val) := by
  rw [sco, dif_pos (by omega)]
  exact Finset.sum_congr rfl fun k _ => by rw [hK j hj, hq]

include hK hq in
/-- The running maximum of a column is that of the blockwise softmax. -/
theorem stM_at : ∀ j : ℕ, j ≤ 13 → stM K q j (ix3 0 0 r') = Softmax.kM (sco x0 x1 h r) j
  | 0, _ => Softmax.ofBits_ninf
  | j + 1, hj => by
    have ih := stM_at j (by omega)
    rw [stM, mxV_at, cmV_at, ih, Softmax.kM]
    exact congrArg (max _) (congrArg (fun f : Fin 1280 → EReal => Finset.univ.fold max ⊥ f) (funext fun u => sc_sco x0 x1 K q h r r' hK hq j (by omega) u))

include hK hV hq in
/-- The accumulator of a column is that of the blockwise softmax. -/
theorem stA_at (d : Fin 80) : ∀ j : ℕ, j ≤ 13 → stA k0_pay136 K V q j (ix3 0 d r') = Softmax.kA (sco x0 x1 h r) (val x2 d) j
  | 0, _ => by rw [stA, Softmax.kA]; exact Ideal.ofBits_zero_f32
  | j + 1, hj => by
    have ih := stA_at d j (by omega)
    have e : max (stM K q j (ix3 0 0 r')) (cmV (K j) q (ix4 0 0 0 r')) = Softmax.kM (sco x0 x1 h r) (j + 1) := by
      rw [← mxV_at]; exact stM_at x0 x1 K q h r r' hK hq (j + 1) hj
    rw [stA, acV_at, e, stM_at x0 x1 K q h r r' hK hq j (by omega), ih, Softmax.kA]
    refine congrArg (_ + ·) (Finset.sum_congr rfl fun u _ => ?_)
    rw [scV_at, sc_sco x0 x1 K q h r r' hK hq j (by omega) u]
    refine congrArg (· * _) ?_
    unfold val
    split_ifs with h1 h2
    · exact hV j (by omega) ⟨d.val, h1⟩ u
    · omega
    · rfl

end

end Cert.KernelIdeal.Body

end
-- ==== Proof.BodyValue.lean ====
/-
  The attention body's run, part by part: the loads of the last key block's step and the result block's, from the loop's
  running maxima and accumulators.
-/
module

public import proofs.«01_k».proof.Proof.Body
public import proofs.«01_k».proof.Proof.Loop

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]
variable (c : Dev nD) (i : grid0.Coords)
  (arg3 : Memref sig .tc .vmem S1x1024x512 .fp8e4m3) (harg3 : arg3.IsWhole) (arg4 : Memref sig .tc .vmem S1x1x16640x256 .fp8e4m3) (harg4 : arg4.IsWhole)
  (arg5 : Memref sig .tc .vmem S1x64x16640 .bf16) (harg5 : arg5.IsWhole) (arg6 : Memref sig .tc .vmem S1x512x256 .bf16) (harg6 : arg6.IsWhole)
  (arg7 : Memref sig .tc .vmem S1x512x256 .bf16) (harg7 : arg7.IsWhole) (arg8 : Memref sig .tc .vmem S4x1x512 .f32) (harg8 : arg8.IsWhole)
  (arg9 : Memref sig .tc .vmem S2x4x1x512 .f32) (harg9 : arg9.IsWhole) (arg10 : Memref sig .tc .vmem S4x80x512 .f32) (harg10 : arg10.IsWhole)
  (arg11 : Memref sig .tc .vmem S2x4x1280x512 .f32) (harg11 : arg11.IsWhole)
  (X3 : BufTy.Contents (Elt F) arg3.view.ty) (X4 : BufTy.Contents (Elt F) arg4.view.ty) (X5 : BufTy.Contents (Elt F) arg5.view.ty)
  (g9 : BufTy.Contents (Elt F) arg9.view.ty) (g11 : BufTy.Contents (Elt F) arg11.view.ty)

/-- The column maxima of key block 0, written before the loop. -/
def pre9 : List (View.Piece (Elt F) S2x4x1x512 .f32) :=
  [⟨Rect.unit ![0, 3, 0, 256] S1x1x1x256.size inb_S2x4x1x512_S1x1x1x256_0_3_0_256, k0_pay163 (bodyRun.sl.r arg4 X4) (View.readAt (Elt F) arg3.view (Rect.unit (s := S1x1024x512) ![0, 768, 256] S1x256x256.size inb_S1x1024x512_S1x256x256_0_768_256).toLoadRect X3)⟩, ⟨Rect.unit ![0, 3, 0, 0] S1x1x1x256.size inb_S2x4x1x512_S1x1x1x256_0_3_0_0, k0_pay160 (bodyRun.sl.r arg4 X4) (View.readAt (Elt F) arg3.view (Rect.unit (s := S1x1024x512) ![0, 768, 0] S1x256x256.size inb_S1x1024x512_S1x256x256_0_768_0).toLoadRect X3)⟩, ⟨Rect.unit ![0, 2, 0, 256] S1x1x1x256.size inb_S2x4x1x512_S1x1x1x256_0_2_0_256, k0_pay157 (bodyRun.sl.r_3 arg3 arg4 X3 X4)⟩, ⟨Rect.unit ![0, 2, 0, 0] S1x1x1x256.size inb_S2x4x1x512_S1x1x1x256_0_2_0_0, k0_pay153 (bodyRun.sl.r arg4 X4) (View.readAt (Elt F) arg3.view (Rect.unit (s := S1x1024x512) ![0, 512, 0] S1x256x256.size inb_S1x1024x512_S1x256x256_0_512_0).toLoadRect X3)⟩, ⟨Rect.unit ![0, 1, 0, 256] S1x1x1x256.size inb_S2x4x1x512_S1x1x1x256_0_1_0_256, k0_pay150 (bodyRun.sl.r_2 arg3 arg4 X3 X4)⟩, ⟨Rect.unit ![0, 1, 0, 0] S1x1x1x256.size inb_S2x4x1x512_S1x1x1x256_0_1_0_0, k0_pay147 (bodyRun.sl.r arg4 X4) (View.readAt (Elt F) arg3.view (Rect.unit (s := S1x1024x512) ![0, 256, 0] S1x256x256.size inb_S1x1024x512_S1x256x256_0_256_0).toLoadRect X3)⟩, ⟨Rect.unit ![0, 0, 0, 256] S1x1x1x256.size inb_S2x4x1x512_S1x1x1x256_0_0_0_256, k0_pay144 (bodyRun.sl.r arg4 X4) (bodyRun.sl.r_1 arg3 X3)⟩, ⟨Rect.unit ![0, 0, 0, 0] S1x1x1x256.size inb_S2x4x1x512_S1x1x1x256_0_0_0_0, k0_pay140 (View.readAt (Elt F) arg4.view (Rect.unit (s := S1x1x16640x256) ![0, 0, 0, 0] S1x1x1280x256.size inb_S1x1x16640x256_S1x1x1280x256_0_0_0_0).toLoadRect X4) (View.readAt (Elt F) arg3.view (Rect.unit (s := S1x1024x512) ![0, 0, 0] S1x256x256.size inb_S1x1024x512_S1x256x256_0_0_0).toLoadRect X3)⟩]
/-- The scores of key block 0, written before the loop. -/
def pre11 : List (View.Piece (Elt F) S2x4x1280x512 .f32) :=
  [⟨Rect.unit ![0, 3, 0, 256] S1x1x1280x256.size inb_S2x4x1280x512_S1x1x1280x256_0_3_0_256, k0_pay162 (bodyRun.sl.r arg4 X4) (View.readAt (Elt F) arg3.view (Rect.unit (s := S1x1024x512) ![0, 768, 256] S1x256x256.size inb_S1x1024x512_S1x256x256_0_768_256).toLoadRect X3)⟩, ⟨Rect.unit ![0, 3, 0, 0] S1x1x1280x256.size inb_S2x4x1280x512_S1x1x1280x256_0_3_0_0, k0_pay159 (bodyRun.sl.r arg4 X4) (View.readAt (Elt F) arg3.view (Rect.unit (s := S1x1024x512) ![0, 768, 0] S1x256x256.size inb_S1x1024x512_S1x256x256_0_768_0).toLoadRect X3)⟩, ⟨Rect.unit ![0, 2, 0, 256] S1x1x1280x256.size inb_S2x4x1280x512_S1x1x1280x256_0_2_0_256, k0_pay155 (bodyRun.sl.r arg4 X4) (View.readAt (Elt F) arg3.view (Rect.unit (s := S1x1024x512) ![0, 512, 256] S1x256x256.size inb_S1x1024x512_S1x256x256_0_512_256).toLoadRect X3)⟩, ⟨Rect.unit ![0, 2, 0, 0] S1x1x1280x256.size inb_S2x4x1280x512_S1x1x1280x256_0_2_0_0, k0_pay152 (bodyRun.sl.r arg4 X4) (View.readAt (Elt F) arg3.view (Rect.unit (s := S1x1024x512) ![0, 512, 0] S1x256x256.size inb_S1x1024x512_S1x256x256_0_512_0).toLoadRect X3)⟩, ⟨Rect.unit ![0, 1, 0, 256] S1x1x1280x256.size inb_S2x4x1280x512_S1x1x1280x256_0_1_0_256, k0_pay149 (bodyRun.sl.r_2 arg3 arg4 X3 X4)⟩, ⟨Rect.unit ![0, 1, 0, 0] S1x1x1280x256.size inb_S2x4x1280x512_S1x1x1280x256_0_1_0_0, k0_pay146 (bodyRun.sl.r arg4 X4) (View.readAt (Elt F) arg3.view (Rect.unit (s := S1x1024x512) ![0, 256, 0] S1x256x256.size inb_S1x1024x512_S1x256x256_0_256_0).toLoadRect X3)⟩, ⟨Rect.unit ![0, 0, 0, 256] S1x1x1280x256.size inb_S2x4x1280x512_S1x1x1280x256_0_0_0_256, k0_pay143 (bodyRun.sl.r arg4 X4) (bodyRun.sl.r_1 arg3 X3)⟩, ⟨Rect.unit ![0, 0, 0, 0] S1x1x1280x256.size inb_S2x4x1280x512_S1x1x1280x256_0_0_0_0, k0_pay139 (View.readAt (Elt F) arg4.view (Rect.unit (s := S1x1x16640x256) ![0, 0, 0, 0] S1x1x1280x256.size inb_S1x1x16640x256_S1x1x1280x256_0_0_0_0).toLoadRect X4) (View.readAt (Elt F) arg3.view (Rect.unit (s := S1x1024x512) ![0, 0, 0] S1x256x256.size inb_S1x1024x512_S1x256x256_0_0_0).toLoadRect X3)⟩]

theorem pre9_0 (f : BufTy.Contents (Elt F) arg9.view.ty) : rdT arg9 (arg9.view.writes (Elt F) f (pre9 (F := F) arg3 arg4 X3 X4)) 0 = cmV (kn arg4 X4 0) (rdQ arg3 X3 0) := by
  iterate 7 refine (miss _ _ _ _ _ _ (by decide)).trans ?_
  exact hit ..

theorem pre9_1 (f : BufTy.Contents (Elt F) arg9.view.ty) : rdT arg9 (arg9.view.writes (Elt F) f (pre9 (F := F) arg3 arg4 X3 X4)) 1 = cmV (kn arg4 X4 0) (rdQ arg3 X3 1) := by
  iterate 6 refine (miss _ _ _ _ _ _ (by decide)).trans ?_
  exact hit ..

theorem pre9_2 (f : BufTy.Contents (Elt F) arg9.view.ty) : rdT arg9 (arg9.view.writes (Elt F) f (pre9 (F := F) arg3 arg4 X3 X4)) 2 = cmV (kn arg4 X4 0) (rdQ arg3 X3 2) := by
  iterate 5 refine (miss _ _ _ _ _ _ (by decide)).trans ?_
  exact hit ..

theorem pre9_3 (f : BufTy.Contents (Elt F) arg9.view.ty) : rdT arg9 (arg9.view.writes (Elt F) f (pre9 (F := F) arg3 arg4 X3 X4)) 3 = cmV (kn arg4 X4 0) (rdQ arg3 X3 3) := by
  iterate 4 refine (miss _ _ _ _ _ _ (by decide)).trans ?_
  exact hit ..

theorem pre9_4 (f : BufTy.Contents (Elt F) arg9.view.ty) : rdT arg9 (arg9.view.writes (Elt F) f (pre9 (F := F) arg3 arg4 X3 X4)) 4 = cmV (kn arg4 X4 0) (rdQ arg3 X3 4) := by
  iterate 3 refine (miss _ _ _ _ _ _ (by decide)).trans ?_
  exact hit ..

theorem pre9_5 (f : BufTy.Contents (Elt F) arg9.view.ty) : rdT arg9 (arg9.view.writes (Elt F) f (pre9 (F := F) arg3 arg4 X3 X4)) 5 = cmV (kn arg4 X4 0) (rdQ arg3 X3 5) := by
  iterate 2 refine (miss _ _ _ _ _ _ (by decide)).trans ?_
  exact hit ..

theorem pre9_6 (f : BufTy.Contents (Elt F) arg9.view.ty) : rdT arg9 (arg9.view.writes (Elt F) f (pre9 (F := F) arg3 arg4 X3 X4)) 6 = cmV (kn arg4 X4 0) (rdQ arg3 X3 6) := by
  iterate 1 refine (miss _ _ _ _ _ _ (by decide)).trans ?_
  exact hit ..

theorem pre9_7 (f : BufTy.Contents (Elt F) arg9.view.ty) : rdT arg9 (arg9.view.writes (Elt F) f (pre9 (F := F) arg3 arg4 X3 X4)) 7 = cmV (kn arg4 X4 0) (rdQ arg3 X3 7) := by
  exact hit ..

theorem pre11_0 (f : BufTy.Contents (Elt F) arg11.view.ty) : rdS arg11 (arg11.view.writes (Elt F) f (pre11 (F := F) arg3 arg4 X3 X4)) 0 = scV (kn arg4 X4 0) (rdQ arg3 X3 0) := by
  iterate 7 refine (miss _ _ _ _ _ _ (by decide)).trans ?_
  exact hit ..

theorem pre11_1 (f : BufTy.Contents (Elt F) arg11.view.ty) : rdS arg11 (arg11.view.writes (Elt F) f (pre11 (F := F) arg3 arg4 X3 X4)) 1 = scV (kn arg4 X4 0) (rdQ arg3 X3 1) := by
  iterate 6 refine (miss _ _ _ _ _ _ (by decide)).trans ?_
  exact hit ..

theorem pre11_2 (f : BufTy.Contents (Elt F) arg11.view.ty) : rdS arg11 (arg11.view.writes (Elt F) f (pre11 (F := F) arg3 arg4 X3 X4)) 2 = scV (kn arg4 X4 0) (rdQ arg3 X3 2) := by
  iterate 5 refine (miss _ _ _ _ _ _ (by decide)).trans ?_
  exact hit ..

theorem pre11_3 (f : BufTy.Contents (Elt F) arg11.view.ty) : rdS arg11 (arg11.view.writes (Elt F) f (pre11 (F := F) arg3 arg4 X3 X4)) 3 = scV (kn arg4 X4 0) (rdQ arg3 X3 3) := by
  iterate 4 refine (miss _ _ _ _ _ _ (by decide)).trans ?_
  exact hit ..

theorem pre11_4 (f : BufTy.Contents (Elt F) arg11.view.ty) : rdS arg11 (arg11.view.writes (Elt F) f (pre11 (F := F) arg3 arg4 X3 X4)) 4 = scV (kn arg4 X4 0) (rdQ arg3 X3 4) := by
  iterate 3 refine (miss _ _ _ _ _ _ (by decide)).trans ?_
  exact hit ..

theorem pre11_5 (f : BufTy.Contents (Elt F) arg11.view.ty) : rdS arg11 (arg11.view.writes (Elt F) f (pre11 (F := F) arg3 arg4 X3 X4)) 5 = scV (kn arg4 X4 0) (rdQ arg3 X3 5) := by
  iterate 2 refine (miss _ _ _ _ _ _ (by decide)).trans ?_
  exact hit ..

theorem pre11_6 (f : BufTy.Contents (Elt F) arg11.view.ty) : rdS arg11 (arg11.view.writes (Elt F) f (pre11 (F := F) arg3 arg4 X3 X4)) 6 = scV (kn arg4 X4 0) (rdQ arg3 X3 6) := by
  iterate 1 refine (miss _ _ _ _ _ _ (by decide)).trans ?_
  exact hit ..

theorem pre11_7 (f : BufTy.Contents (Elt F) arg11.view.ty) : rdS arg11 (arg11.view.writes (Elt F) f (pre11 (F := F) arg3 arg4 X3 X4)) 7 = scV (kn arg4 X4 0) (rdQ arg3 X3 7) := by
  exact hit ..

/-- The state at loop entry, over any contents of the two score buffers. -/
theorem holds_entry (f9 : BufTy.Contents (Elt F) arg9.view.ty) (f11 : BufTy.Contents (Elt F) arg11.view.ty) :
    Holds arg3 arg4 arg5 arg8 arg9 arg10 arg11 k0_pay136 X3 X4 X5 0 (arg8.view.writes (Elt F) arg8.view.junk (bodyRun.sl.H8_1 (F := F))) (arg9.view.writes (Elt F) f9 (pre9 (F := F) arg3 arg4 X3 X4)) (arg10.view.writes (Elt F) arg10.view.junk (bodyRun.sl.H10_1 (F := F))) (arg11.view.writes (Elt F) f11 (pre11 (F := F) arg3 arg4 X3 X4)) := by
  refine ⟨fun p => ?_, fun p => ?_, fun p => ?_, fun p => ?_⟩
  · exact (View.readCov_fill arg8.view _ _ [] (r8 p) (by decide)).trans rfl
  · match p with
    | 0 => exact pre9_0 ..
    | 1 => exact pre9_1 ..
    | 2 => exact pre9_2 ..
    | 3 => exact pre9_3 ..
    | 4 => exact pre9_4 ..
    | 5 => exact pre9_5 ..
    | 6 => exact pre9_6 ..
    | 7 => exact pre9_7 ..
  · exact (View.readCov_fill arg10.view _ _ [] (r10 p) (by decide)).trans rfl
  · match p with
    | 0 => exact pre11_0 ..
    | 1 => exact pre11_1 ..
    | 2 => exact pre11_2 ..
    | 3 => exact pre11_3 ..
    | 4 => exact pre11_4 ..
    | 5 => exact pre11_5 ..
    | 6 => exact pre11_6 ..
    | 7 => exact pre11_7 ..

/-- The state at loop exit, over the lists the remainder reads. -/
theorem holds_exit : Holds arg3 arg4 arg5 arg8 arg9 arg10 arg11 k0_pay136 X3 X4 X5 6 (arg8.view.writes (Elt F) arg8.view.junk ((pb_k0_t1 (F := F) Variants.none c none i arg3 harg3 arg4 harg4 arg5 harg5 arg6 harg6 arg7 harg7 arg8 harg8 arg9 harg9 arg10 harg10 arg11 harg11 k0_pay136 0#32 X3 X4 X5 (arg8.view.writes (Elt F) arg8.view.junk (bodyRun.sl.H8_1 (F := F))) (arg9.view.writes (Elt F) g9 (pre9 (F := F) arg3 arg4 X3 X4)) (arg10.view.writes (Elt F) arg10.view.junk (bodyRun.sl.H10_1 (F := F))) (arg11.view.writes (Elt F) g11 (pre11 (F := F) arg3 arg4 X3 X4)) (Scf.trips k0_t1_loop.lb k0_t1_loop.ub k0_t1_loop.st)).1 ++ (bodyRun.sl.H8_1 (F := F)))) (arg9.view.writes (Elt F) arg9.view.junk ((pb_k0_t1 (F := F) Variants.none c none i arg3 harg3 arg4 harg4 arg5 harg5 arg6 harg6 arg7 harg7 arg8 harg8 arg9 harg9 arg10 harg10 arg11 harg11 k0_pay136 0#32 X3 X4 X5 (arg8.view.writes (Elt F) arg8.view.junk (bodyRun.sl.H8_1 (F := F))) (arg9.view.writes (Elt F) g9 (pre9 (F := F) arg3 arg4 X3 X4)) (arg10.view.writes (Elt F) arg10.view.junk (bodyRun.sl.H10_1 (F := F))) (arg11.view.writes (Elt F) g11 (pre11 (F := F) arg3 arg4 X3 X4)) (Scf.trips k0_t1_loop.lb k0_t1_loop.ub k0_t1_loop.st)).2.1 ++ (pre9 (F := F) arg3 arg4 X3 X4))) (arg10.view.writes (Elt F) arg10.view.junk ((pb_k0_t1 (F := F) Variants.none c none i arg3 harg3 arg4 harg4 arg5 harg5 arg6 harg6 arg7 harg7 arg8 harg8 arg9 harg9 arg10 harg10 arg11 harg11 k0_pay136 0#32 X3 X4 X5 (arg8.view.writes (Elt F) arg8.view.junk (bodyRun.sl.H8_1 (F := F))) (arg9.view.writes (Elt F) g9 (pre9 (F := F) arg3 arg4 X3 X4)) (arg10.view.writes (Elt F) arg10.view.junk (bodyRun.sl.H10_1 (F := F))) (arg11.view.writes (Elt F) g11 (pre11 (F := F) arg3 arg4 X3 X4)) (Scf.trips k0_t1_loop.lb k0_t1_loop.ub k0_t1_loop.st)).2.2.1 ++ (bodyRun.sl.H10_1 (F := F)))) (arg11.view.writes (Elt F) arg11.view.junk ((pb_k0_t1 (F := F) Variants.none c none i arg3 harg3 arg4 harg4 arg5 harg5 arg6 harg6 arg7 harg7 arg8 harg8 arg9 harg9 arg10 harg10 arg11 harg11 k0_pay136 0#32 X3 X4 X5 (arg8.view.writes (Elt F) arg8.view.junk (bodyRun.sl.H8_1 (F := F))) (arg9.view.writes (Elt F) g9 (pre9 (F := F) arg3 arg4 X3 X4)) (arg10.view.writes (Elt F) arg10.view.junk (bodyRun.sl.H10_1 (F := F))) (arg11.view.writes (Elt F) g11 (pre11 (F := F) arg3 arg4 X3 X4)) (Scf.trips k0_t1_loop.lb k0_t1_loop.ub k0_t1_loop.st)).2.2.2 ++ (pre11 (F := F) arg3 arg4 X3 X4))) := by
  rw [View.writes_append, View.writes_append, View.writes_append, View.writes_append]
  exact holds_six (h := holds_entry ..) ..

theorem s8_1 (p : Fin 8) (hp : 1 ≤ p.val) : rdM arg8 (arg8.view.writes (Elt F) arg8.view.junk (bodyRun.sl.H8_1_1 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans ((holds_exit c i arg3 harg3 arg4 harg4 arg5 harg5 arg6 harg6 arg7 harg7 arg8 harg8 arg9 harg9 arg10 harg10 arg11 harg11 X3 X4 X5 g9 g11).hM p)

theorem s8_2 (p : Fin 8) (hp : 2 ≤ p.val) : rdM arg8 (arg8.view.writes (Elt F) arg8.view.junk (bodyRun.sl.H8_2 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_1 (hp := by omega) ..)

theorem s8_3 (p : Fin 8) (hp : 3 ≤ p.val) : rdM arg8 (arg8.view.writes (Elt F) arg8.view.junk (bodyRun.sl.H8_3 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_2 (hp := by omega) ..)

theorem s8_4 (p : Fin 8) (hp : 4 ≤ p.val) : rdM arg8 (arg8.view.writes (Elt F) arg8.view.junk (bodyRun.sl.H8_4 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_3 (hp := by omega) ..)

theorem s8_5 (p : Fin 8) (hp : 5 ≤ p.val) : rdM arg8 (arg8.view.writes (Elt F) arg8.view.junk (bodyRun.sl.H8_5 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_4 (hp := by omega) ..)

theorem s8_6 (p : Fin 8) (hp : 6 ≤ p.val) : rdM arg8 (arg8.view.writes (Elt F) arg8.view.junk (bodyRun.sl.H8_6 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_5 (hp := by omega) ..)

theorem s8_7 (p : Fin 8) (hp : 7 ≤ p.val) : rdM arg8 (arg8.view.writes (Elt F) arg8.view.junk (bodyRun.sl.H8_7 (F := F) c i arg3 harg3 arg4 harg4 arg5 harg5 arg6 harg6 arg7 harg7 arg8 harg8 arg9 harg9 arg10 harg10 arg11 harg11 X3 X4 X5 g9 g11)) p = stM (kn arg4 X4) (rdQ arg3 X3 p) 12 :=
  (miss _ _ _ _ _ _ (by revert p; decide +kernel)).trans (s8_6 (hp := by omega) ..)

theorem s9_1 (p : Fin 8) : rdT arg9 (arg9.view.writes (Elt F) arg9.view.junk (bodyRun.sl.H9_1 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans ((holds_exit c i arg3 harg3 arg4 harg4 arg5 harg5 arg6 harg6 arg7 harg7 arg8 harg8 arg9 harg9 arg10 harg10 arg11 harg11 X3 X4 X5 g9 g11).hT p)

theorem s9_2 (p : Fin 8) : rdT arg9 (arg9.view.writes (Elt F) arg9.view.junk (bodyRun.sl.H9_2 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_1 ..)

theorem s9_3 (p : Fin 8) : rdT arg9 (arg9.view.writes (Elt F) arg9.view.junk (bodyRun.sl.H9_3 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_2 ..)

theorem s9_4 (p : Fin 8) : rdT arg9 (arg9.view.writes (Elt F) arg9.view.junk (bodyRun.sl.H9_4 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_3 ..)

theorem s9_5 (p : Fin 8) : rdT arg9 (arg9.view.writes (Elt F) arg9.view.junk (bodyRun.sl.H9_5 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_4 ..)

theorem s9_6 (p : Fin 8) : rdT arg9 (arg9.view.writes (Elt F) arg9.view.junk (bodyRun.sl.H9_6 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_5 ..)

theorem s9_7 (p : Fin 8) : rdT arg9 (arg9.view.writes (Elt F) arg9.view.junk (bodyRun.sl.H9_7 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_6 ..)

theorem s9_8 (p : Fin 8) : rdT arg9 (arg9.view.writes (Elt F) arg9.view.junk (bodyRun.sl.H9_8 (F := F) c i arg3 harg3 arg4 harg4 arg5 harg5 arg6 harg6 arg7 harg7 arg8 harg8 arg9 harg9 arg10 harg10 arg11 harg11 X3 X4 X5 g9 g11)) p = cmV (kn arg4 X4 12) (rdQ arg3 X3 p) :=
  (miss _ _ _ _ _ _ (by revert p; decide +kernel)).trans (s9_7 ..)

theorem s10_1 (p : Fin 8) (hp : 1 ≤ p.val) : rdA arg10 (arg10.view.writes (Elt F) arg10.view.junk (bodyRun.sl.H10_1_1 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans ((holds_exit c i arg3 harg3 arg4 harg4 arg5 harg5 arg6 harg6 arg7 harg7 arg8 harg8 arg9 harg9 arg10 harg10 arg11 harg11 X3 X4 X5 g9 g11).hA p)

theorem s10_2 (p : Fin 8) (hp : 2 ≤ p.val) : rdA arg10 (arg10.view.writes (Elt F) arg10.view.junk (bodyRun.sl.H10_2 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_1 (hp := by omega) ..)

theorem s10_3 (p : Fin 8) (hp : 3 ≤ p.val) : rdA arg10 (arg10.view.writes (Elt F) arg10.view.junk (bodyRun.sl.H10_3 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_2 (hp := by omega) ..)

theorem s10_4 (p : Fin 8) (hp : 4 ≤ p.val) : rdA arg10 (arg10.view.writes (Elt F) arg10.view.junk (bodyRun.sl.H10_4 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_3 (hp := by omega) ..)

theorem s10_5 (p : Fin 8) (hp : 5 ≤ p.val) : rdA arg10 (arg10.view.writes (Elt F) arg10.view.junk (bodyRun.sl.H10_5 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_4 (hp := by omega) ..)

theorem s10_6 (p : Fin 8) (hp : 6 ≤ p.val) : rdA arg10 (arg10.view.writes (Elt F) arg10.view.junk (bodyRun.sl.H10_6 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_5 (hp := by omega) ..)

theorem s10_7 (p : Fin 8) (hp : 7 ≤ p.val) : rdA arg10 (arg10.view.writes (Elt F) arg10.view.junk (bodyRun.sl.H10_7 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 12 :=
  (miss _ _ _ _ _ _ (by revert p; decide +kernel)).trans (s10_6 (hp := by omega) ..)

theorem s11_1 (p : Fin 8) : rdS arg11 (arg11.view.writes (Elt F) arg11.view.junk (bodyRun.sl.H11_1 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans ((holds_exit c i arg3 harg3 arg4 harg4 arg5 harg5 arg6 harg6 arg7 harg7 arg8 harg8 arg9 harg9 arg10 harg10 arg11 harg11 X3 X4 X5 g9 g11).hS p)

theorem s11_2 (p : Fin 8) : rdS arg11 (arg11.view.writes (Elt F) arg11.view.junk (bodyRun.sl.H11_2 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_1 ..)

theorem s11_3 (p : Fin 8) : rdS arg11 (arg11.view.writes (Elt F) arg11.view.junk (bodyRun.sl.H11_3 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_2 ..)

theorem s11_4 (p : Fin 8) : rdS arg11 (arg11.view.writes (Elt F) arg11.view.junk (bodyRun.sl.H11_4 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_3 ..)

theorem s11_5 (p : Fin 8) : rdS arg11 (arg11.view.writes (Elt F) arg11.view.junk (bodyRun.sl.H11_5 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_4 ..)

theorem s11_6 (p : Fin 8) : rdS arg11 (arg11.view.writes (Elt F) arg11.view.junk (bodyRun.sl.H11_6 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_5 ..)

theorem s11_7 (p : Fin 8) : rdS arg11 (arg11.view.writes (Elt F) arg11.view.junk (bodyRun.sl.H11_7 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_6 ..)

theorem s11_8 (p : Fin 8) : rdS arg11 (arg11.view.writes (Elt F) arg11.view.junk (bodyRun.sl.H11_8 (F := F) c i arg3 harg3 arg4 harg4 arg5 harg5 arg6 harg6 arg7 harg7 arg8 harg8 arg9 harg9 arg10 harg10 arg11 harg11 X3 X4 X5 g9 g11)) p = scV (kn arg4 X4 12) (rdQ arg3 X3 p) :=
  (miss _ _ _ _ _ _ (by revert p; decide +kernel)).trans (s11_7 ..)

theorem b_v116 : (bodyRun.sl.v116 (F := F) c i arg3 harg3 arg4 harg4 arg5 harg5 arg6 harg6 arg7 harg7 arg8 harg8 arg9 harg9 arg10 harg10 arg11 harg11 X3 X4 X5 g9 g11) = stM (kn arg4 X4) (rdQ arg3 X3 0) 12 :=
  (holds_exit c i arg3 harg3 arg4 harg4 arg5 harg5 arg6 harg6 arg7 harg7 arg8 harg8 arg9 harg9 arg10 harg10 arg11 harg11 X3 X4 X5 g9 g11).hM 0

theorem b_v118 : (bodyRun.sl.v118 (F := F) c i arg3 harg3 arg4 harg4 arg5 harg5 arg6 harg6 arg7 harg7 arg8 harg8 arg9 harg9 arg10 harg10 arg11 harg11 X3 X4 X5 g9 g11) = cmV (kn arg4 X4 12) (rdQ arg3 X3 0) :=
  s9_1 (p := 0) ..

theorem b_v126 : (bodyRun.sl.v126 (F := F) c i arg3 harg3 arg4 harg4 arg5 harg5 arg6 harg6 arg7 harg7 arg8 harg8 arg9 harg9 arg10 harg10 arg11 harg11 X3 X4 X5 g9 g11) = scV (kn arg4 X4 12) (rdQ arg3 X3 0) :=
  s11_1 (p := 0) ..

theorem b_v132 : (bodyRun.sl.v132 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 0) 12 :=
  (holds_exit c i arg3 harg3 arg4 harg4 arg5 harg5 arg6 harg6 arg7 harg7 arg8 harg8 arg9 harg9 arg10 harg10 arg11 harg11 X3 X4 X5 g9 g11).hA 0

theorem b_v152 : (bodyRun.sl.v152 (F := F) c i arg3 harg3 arg4 harg4 arg5 harg5 arg6 harg6 arg7 harg7 arg8 harg8 arg9 harg9 arg10 harg10 arg11 harg11 X3 X4 X5 g9 g11) = stM (kn arg4 X4) (rdQ arg3 X3 1) 12 :=
  s8_1 (p := 1) (hp := by decide) ..

theorem b_v154 : (bodyRun.sl.v154 (F := F) c i arg3 harg3 arg4 harg4 arg5 harg5 arg6 harg6 arg7 harg7 arg8 harg8 arg9 harg9 arg10 harg10 arg11 harg11 X3 X4 X5 g9 g11) = cmV (kn arg4 X4 12) (rdQ arg3 X3 1) :=
  s9_2 (p := 1) ..

theorem b_v162 : (bodyRun.sl.v162 (F := F) c i arg3 harg3 arg4 harg4 arg5 harg5 arg6 harg6 arg7 harg7 arg8 harg8 arg9 harg9 arg10 harg10 arg11 harg11 X3 X4 X5 g9 g11) = scV (kn arg4 X4 12) (rdQ arg3 X3 1) :=
  s11_2 (p := 1) ..

theorem b_v168 : (bodyRun.sl.v168 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 1) 12 :=
  s10_1 (p := 1) (hp := by decide) ..

theorem b_v188 : (bodyRun.sl.v188 (F := F) c i arg3 harg3 arg4 harg4 arg5 harg5 arg6 harg6 arg7 harg7 arg8 harg8 arg9 harg9 arg10 harg10 arg11 harg11 X3 X4 X5 g9 g11) = stM (kn arg4 X4) (rdQ arg3 X3 2) 12 :=
  s8_2 (p := 2) (hp := by decide) ..

theorem b_v190 : (bodyRun.sl.v190 (F := F) c i arg3 harg3 arg4 harg4 arg5 harg5 arg6 harg6 arg7 harg7 arg8 harg8 arg9 harg9 arg10 harg10 arg11 harg11 X3 X4 X5 g9 g11) = cmV (kn arg4 X4 12) (rdQ arg3 X3 2) :=
  s9_3 (p := 2) ..

theorem b_v198 : (bodyRun.sl.v198 (F := F) c i arg3 harg3 arg4 harg4 arg5 harg5 arg6 harg6 arg7 harg7 arg8 harg8 arg9 harg9 arg10 harg10 arg11 harg11 X3 X4 X5 g9 g11) = scV (kn arg4 X4 12) (rdQ arg3 X3 2) :=
  s11_3 (p := 2) ..

theorem b_v204 : (bodyRun.sl.v204 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 2) 12 :=
  s10_2 (p := 2) (hp := by decide) ..

theorem b_v224 : (bodyRun.sl.v224 (F := F) c i arg3 harg3 arg4 harg4 arg5 harg5 arg6 harg6 arg7 harg7 arg8 harg8 arg9 harg9 arg10 harg10 arg11 harg11 X3 X4 X5 g9 g11) = stM (kn arg4 X4) (rdQ arg3 X3 3) 12 :=
  s8_3 (p := 3) (hp := by decide) ..

theorem b_v226 : (bodyRun.sl.v226 (F := F) c i arg3 harg3 arg4 harg4 arg5 harg5 arg6 harg6 arg7 harg7 arg8 harg8 arg9 harg9 arg10 harg10 arg11 harg11 X3 X4 X5 g9 g11) = cmV (kn arg4 X4 12) (rdQ arg3 X3 3) :=
  s9_4 (p := 3) ..

theorem b_v234 : (bodyRun.sl.v234 (F := F) c i arg3 harg3 arg4 harg4 arg5 harg5 arg6 harg6 arg7 harg7 arg8 harg8 arg9 harg9 arg10 harg10 arg11 harg11 X3 X4 X5 g9 g11) = scV (kn arg4 X4 12) (rdQ arg3 X3 3) :=
  s11_4 (p := 3) ..

theorem b_v240 : (bodyRun.sl.v240 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 3) 12 :=
  s10_3 (p := 3) (hp := by decide) ..

theorem b_v260 : (bodyRun.sl.v260 (F := F) c i arg3 harg3 arg4 harg4 arg5 harg5 arg6 harg6 arg7 harg7 arg8 harg8 arg9 harg9 arg10 harg10 arg11 harg11 X3 X4 X5 g9 g11) = stM (kn arg4 X4) (rdQ arg3 X3 4) 12 :=
  s8_4 (p := 4) (hp := by decide) ..

theorem b_v262 : (bodyRun.sl.v262 (F := F) c i arg3 harg3 arg4 harg4 arg5 harg5 arg6 harg6 arg7 harg7 arg8 harg8 arg9 harg9 arg10 harg10 arg11 harg11 X3 X4 X5 g9 g11) = cmV (kn arg4 X4 12) (rdQ arg3 X3 4) :=
  s9_5 (p := 4) ..

theorem b_v270 : (bodyRun.sl.v270 (F := F) c i arg3 harg3 arg4 harg4 arg5 harg5 arg6 harg6 arg7 harg7 arg8 harg8 arg9 harg9 arg10 harg10 arg11 harg11 X3 X4 X5 g9 g11) = scV (kn arg4 X4 12) (rdQ arg3 X3 4) :=
  s11_5 (p := 4) ..

theorem b_v276 : (bodyRun.sl.v276 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 4) 12 :=
  s10_4 (p := 4) (hp := by decide) ..

theorem b_v296 : (bodyRun.sl.v296 (F := F) c i arg3 harg3 arg4 harg4 arg5 harg5 arg6 harg6 arg7 harg7 arg8 harg8 arg9 harg9 arg10 harg10 arg11 harg11 X3 X4 X5 g9 g11) = stM (kn arg4 X4) (rdQ arg3 X3 5) 12 :=
  s8_5 (p := 5) (hp := by decide) ..

theorem b_v298 : (bodyRun.sl.v298 (F := F) c i arg3 harg3 arg4 harg4 arg5 harg5 arg6 harg6 arg7 harg7 arg8 harg8 arg9 harg9 arg10 harg10 arg11 harg11 X3 X4 X5 g9 g11) = cmV (kn arg4 X4 12) (rdQ arg3 X3 5) :=
  s9_6 (p := 5) ..

theorem b_v306 : (bodyRun.sl.v306 (F := F) c i arg3 harg3 arg4 harg4 arg5 harg5 arg6 harg6 arg7 harg7 arg8 harg8 arg9 harg9 arg10 harg10 arg11 harg11 X3 X4 X5 g9 g11) = scV (kn arg4 X4 12) (rdQ arg3 X3 5) :=
  s11_6 (p := 5) ..

theorem b_v312 : (bodyRun.sl.v312 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 5) 12 :=
  s10_5 (p := 5) (hp := by decide) ..

theorem b_v332 : (bodyRun.sl.v332 (F := F) c i arg3 harg3 arg4 harg4 arg5 harg5 arg6 harg6 arg7 harg7 arg8 harg8 arg9 harg9 arg10 harg10 arg11 harg11 X3 X4 X5 g9 g11) = stM (kn arg4 X4) (rdQ arg3 X3 6) 12 :=
  s8_6 (p := 6) (hp := by decide) ..

theorem b_v334 : (bodyRun.sl.v334 (F := F) c i arg3 harg3 arg4 harg4 arg5 harg5 arg6 harg6 arg7 harg7 arg8 harg8 arg9 harg9 arg10 harg10 arg11 harg11 X3 X4 X5 g9 g11) = cmV (kn arg4 X4 12) (rdQ arg3 X3 6) :=
  s9_7 (p := 6) ..

theorem b_v342 : (bodyRun.sl.v342 (F := F) c i arg3 harg3 arg4 harg4 arg5 harg5 arg6 harg6 arg7 harg7 arg8 harg8 arg9 harg9 arg10 harg10 arg11 harg11 X3 X4 X5 g9 g11) = scV (kn arg4 X4 12) (rdQ arg3 X3 6) :=
  s11_7 (p := 6) ..

theorem b_v348 : (bodyRun.sl.v348 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 6) 12 :=
  s10_6 (p := 6) (hp := by decide) ..

theorem b_v368 : (bodyRun.sl.v368 (F := F) c i arg3 harg3 arg4 harg4 arg5 harg5 arg6 harg6 arg7 harg7 arg8 harg8 arg9 harg9 arg10 harg10 arg11 harg11 X3 X4 X5 g9 g11) = stM (kn arg4 X4) (rdQ arg3 X3 7) 12 :=
  s8_7 (p := 7) (hp := by decide) ..

theorem b_v370 : (bodyRun.sl.v370 (F := F) c i arg3 harg3 arg4 harg4 arg5 harg5 arg6 harg6 arg7 harg7 arg8 harg8 arg9 harg9 arg10 harg10 arg11 harg11 X3 X4 X5 g9 g11) = cmV (kn arg4 X4 12) (rdQ arg3 X3 7) :=
  s9_8 (p := 7) ..

theorem b_v378 : (bodyRun.sl.v378 (F := F) c i arg3 harg3 arg4 harg4 arg5 harg5 arg6 harg6 arg7 harg7 arg8 harg8 arg9 harg9 arg10 harg10 arg11 harg11 X3 X4 X5 g9 g11) = scV (kn arg4 X4 12) (rdQ arg3 X3 7) :=
  s11_8 (p := 7) ..

theorem b_v384 : (bodyRun.sl.v384 (F := F) c i arg3 harg3 arg4 harg4 arg5 harg5 arg6 harg6 arg7 harg7 arg8 harg8 arg9 harg9 arg10 harg10 arg11 harg11 X3 X4 X5 g9 g11) = stA k0_pay136 (kn arg4 X4) (vn arg5 X5) (rdQ arg3 X3 7) 12 :=
  s10_7 (p := 7) (hp := by decide) ..

theorem end10_0 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 0 = stA k0_pay136 (kn arg4 X4) (vn arg5 X5) (rdQ arg3 X3 0) 13 := by
  iterate 7 refine (miss _ _ _ _ _ _ (by decide)).trans ?_
  refine (hit ..).trans ?_
  show acV k0_pay136 (vn arg5 X5 12) (bodyRun.sl.v116 (F := F) c i arg3 harg3 arg4 harg4 arg5 harg5 arg6 harg6 arg7 harg7 arg8 harg8 arg9 harg9 arg10 harg10 arg11 harg11 X3 X4 X5 g9 g11) (bodyRun.sl.v118 (F := F) c i arg3 harg3 arg4 harg4 arg5 harg5 arg6 harg6 arg7 harg7 arg8 harg8 arg9 harg9 arg10 harg10 arg11 harg11 X3 X4 X5 g9 g11) (bodyRun.sl.v126 (F := F) c i arg3 harg3 arg4 harg4 arg5 harg5 arg6 harg6 arg7 harg7 arg8 harg8 arg9 harg9 arg10 harg10 arg11 harg11 X3 X4 X5 g9 g11) (bodyRun.sl.v132 (F := F) c i arg3 harg3 arg4 harg4 arg5 harg5 arg6 harg6 arg7 harg7 arg8 harg8 arg9 harg9 arg10 harg10 arg11 harg11 X3 X4 X5 g9 g11) = _
  rw [b_v116, b_v118, b_v126, b_v132]; rfl

theorem end10_1 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 1 = stA k0_pay136 (kn arg4 X4) (vn arg5 X5) (rdQ arg3 X3 1) 13 := by
  iterate 6 refine (miss _ _ _ _ _ _ (by decide)).trans ?_
  refine (hit ..).trans ?_
  show acV k0_pay136 (vn arg5 X5 12) (bodyRun.sl.v152 (F := F) c i arg3 harg3 arg4 harg4 arg5 harg5 arg6 harg6 arg7 harg7 arg8 harg8 arg9 harg9 arg10 harg10 arg11 harg11 X3 X4 X5 g9 g11) (bodyRun.sl.v154 (F := F) c i arg3 harg3 arg4 harg4 arg5 harg5 arg6 harg6 arg7 harg7 arg8 harg8 arg9 harg9 arg10 harg10 arg11 harg11 X3 X4 X5 g9 g11) (bodyRun.sl.v162 (F := F) c i arg3 harg3 arg4 harg4 arg5 harg5 arg6 harg6 arg7 harg7 arg8 harg8 arg9 harg9 arg10 harg10 arg11 harg11 X3 X4 X5 g9 g11) (bodyRun.sl.v168 (F := F) c i arg3 harg3 arg4 harg4 arg5 harg5 arg6 harg6 arg7 harg7 arg8 harg8 arg9 harg9 arg10 harg10 arg11 harg11 X3 X4 X5 g9 g11) = _
  rw [b_v152, b_v154, b_v162, b_v168]; rfl

theorem end10_2 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 2 = stA k0_pay136 (kn arg4 X4) (vn arg5 X5) (rdQ arg3 X3 2) 13 := by
  iterate 5 refine (miss _ _ _ _ _ _ (by decide)).trans ?_
  refine (hit ..).trans ?_
  show acV k0_pay136 (vn arg5 X5 12) (bodyRun.sl.v188 (F := F) c i arg3 harg3 arg4 harg4 arg5 harg5 arg6 harg6 arg7 harg7 arg8 harg8 arg9 harg9 arg10 harg10 arg11 harg11 X3 X4 X5 g9 g11) (bodyRun.sl.v190 (F := F) c i arg3 harg3 arg4 harg4 arg5 harg5 arg6 harg6 arg7 harg7 arg8 harg8 arg9 harg9 arg10 harg10 arg11 harg11 X3 X4 X5 g9 g11) (bodyRun.sl.v198 (F := F) c i arg3 harg3 arg4 harg4 arg5 harg5 arg6 harg6 arg7 harg7 arg8 harg8 arg9 harg9 arg10 harg10 arg11 harg11 X3 X4 X5 g9 g11) (bodyRun.sl.v204 (F := F) c i arg3 harg3 arg4 harg4 arg5 harg5 arg6 harg6 arg7 harg7 arg8 harg8 arg9 harg9 arg10 harg10 arg11 harg11 X3 X4 X5 g9 g11) = _
  rw [b_v188, b_v190, b_v198, b_v204]; rfl

theorem end10_3 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 3 = stA k0_pay136 (kn arg4 X4) (vn arg5 X5) (rdQ arg3 X3 3) 13 := by
  iterate 4 refine (miss _ _ _ _ _ _ (by decide)).trans ?_
  refine (hit ..).trans ?_
  show acV k0_pay136 (vn arg5 X5 12) (bodyRun.sl.v224 (F := F) c i arg3 harg3 arg4 harg4 arg5 harg5 arg6 harg6 arg7 harg7 arg8 harg8 arg9 harg9 arg10 harg10 arg11 harg11 X3 X4 X5 g9 g11) (bodyRun.sl.v226 (F := F) c i arg3 harg3 arg4 harg4 arg5 harg5 arg6 harg6 arg7 harg7 arg8 harg8 arg9 harg9 arg10 harg10 arg11 harg11 X3 X4 X5 g9 g11) (bodyRun.sl.v234 (F := F) c i arg3 harg3 arg4 harg4 arg5 harg5 arg6 harg6 arg7 harg7 arg8 harg8 arg9 harg9 arg10 harg10 arg11 harg11 X3 X4 X5 g9 g11) (bodyRun.sl.v240 (F := F) c i arg3 harg3 arg4 harg4 arg5 harg5 arg6 harg6 arg7 harg7 arg8 harg8 arg9 harg9 arg10 harg10 arg11 harg11 X3 X4 X5 g9 g11) = _
  rw [b_v224, b_v226, b_v234, b_v240]; rfl

theorem end10_4 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 4 = stA k0_pay136 (kn arg4 X4) (vn arg5 X5) (rdQ arg3 X3 4) 13 := by
  iterate 3 refine (miss _ _ _ _ _ _ (by decide)).trans ?_
  refine (hit ..).trans ?_
  show acV k0_pay136 (vn arg5 X5 12) (bodyRun.sl.v260 (F := F) c i arg3 harg3 arg4 harg4 arg5 harg5 arg6 harg6 arg7 harg7 arg8 harg8 arg9 harg9 arg10 harg10 arg11 harg11 X3 X4 X5 g9 g11) (bodyRun.sl.v262 (F := F) c i arg3 harg3 arg4 harg4 arg5 harg5 arg6 harg6 arg7 harg7 arg8 harg8 arg9 harg9 arg10 harg10 arg11 harg11 X3 X4 X5 g9 g11) (bodyRun.sl.v270 (F := F) c i arg3 harg3 arg4 harg4 arg5 harg5 arg6 harg6 arg7 harg7 arg8 harg8 arg9 harg9 arg10 harg10 arg11 harg11 X3 X4 X5 g9 g11) (bodyRun.sl.v276 (F := F) c i arg3 harg3 arg4 harg4 arg5 harg5 arg6 harg6 arg7 harg7 arg8 harg8 arg9 harg9 arg10 harg10 arg11 harg11 X3 X4 X5 g9 g11) = _
  rw [b_v260, b_v262, b_v270, b_v276]; rfl

theorem end10_5 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 5 = stA k0_pay136 (kn arg4 X4) (vn arg5 X5) (rdQ arg3 X3 5) 13 := by
  iterate 2 refine (miss _ _ _ _ _ _ (by decide)).trans ?_
  refine (hit ..).trans ?_
  show acV k0_pay136 (vn arg5 X5 12) (bodyRun.sl.v296 (F := F) c i arg3 harg3 arg4 harg4 arg5 harg5 arg6 harg6 arg7 harg7 arg8 harg8 arg9 harg9 arg10 harg10 arg11 harg11 X3 X4 X5 g9 g11) (bodyRun.sl.v298 (F := F) c i arg3 harg3 arg4 harg4 arg5 harg5 arg6 harg6 arg7 harg7 arg8 harg8 arg9 harg9 arg10 harg10 arg11 harg11 X3 X4 X5 g9 g11) (bodyRun.sl.v306 (F := F) c i arg3 harg3 arg4 harg4 arg5 harg5 arg6 harg6 arg7 harg7 arg8 harg8 arg9 harg9 arg10 harg10 arg11 harg11 X3 X4 X5 g9 g11) (bodyRun.sl.v312 (F := F) c i arg3 harg3 arg4 harg4 arg5 harg5 arg6 harg6 arg7 harg7 arg8 harg8 arg9 harg9 arg10 harg10 arg11 harg11 X3 X4 X5 g9 g11) = _
  rw [b_v296, b_v298, b_v306, b_v312]; rfl

theorem end10_6 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 6 = stA k0_pay136 (kn arg4 X4) (vn arg5 X5) (rdQ arg3 X3 6) 13 := by
  iterate 1 refine (miss _ _ _ _ _ _ (by decide)).trans ?_
  refine (hit ..).trans ?_
  show acV k0_pay136 (vn arg5 X5 12) (bodyRun.sl.v332 (F := F) c i arg3 harg3 arg4 harg4 arg5 harg5 arg6 harg6 arg7 harg7 arg8 harg8 arg9 harg9 arg10 harg10 arg11 harg11 X3 X4 X5 g9 g11) (bodyRun.sl.v334 (F := F) c i arg3 harg3 arg4 harg4 arg5 harg5 arg6 harg6 arg7 harg7 arg8 harg8 arg9 harg9 arg10 harg10 arg11 harg11 X3 X4 X5 g9 g11) (bodyRun.sl.v342 (F := F) c i arg3 harg3 arg4 harg4 arg5 harg5 arg6 harg6 arg7 harg7 arg8 harg8 arg9 harg9 arg10 harg10 arg11 harg11 X3 X4 X5 g9 g11) (bodyRun.sl.v348 (F := F) c i arg3 harg3 arg4 harg4 arg5 harg5 arg6 harg6 arg7 harg7 arg8 harg8 arg9 harg9 arg10 harg10 arg11 harg11 X3 X4 X5 g9 g11) = _
  rw [b_v332, b_v334, b_v342, b_v348]; rfl

theorem end10_7 : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) 7 = stA k0_pay136 (kn arg4 X4) (vn arg5 X5) (rdQ arg3 X3 7) 13 := by
  refine (hit ..).trans ?_
  show acV k0_pay136 (vn arg5 X5 12) (bodyRun.sl.v368 (F := F) c i arg3 harg3 arg4 harg4 arg5 harg5 arg6 harg6 arg7 harg7 arg8 harg8 arg9 harg9 arg10 harg10 arg11 harg11 X3 X4 X5 g9 g11) (bodyRun.sl.v370 (F := F) c i arg3 harg3 arg4 harg4 arg5 harg5 arg6 harg6 arg7 harg7 arg8 harg8 arg9 harg9 arg10 harg10 arg11 harg11 X3 X4 X5 g9 g11) (bodyRun.sl.v378 (F := F) c i arg3 harg3 arg4 harg4 arg5 harg5 arg6 harg6 arg7 harg7 arg8 harg8 arg9 harg9 arg10 harg10 arg11 harg11 X3 X4 X5 g9 g11) (bodyRun.sl.v384 (F := F) c i arg3 harg3 arg4 harg4 arg5 harg5 arg6 harg6 arg7 harg7 arg8 harg8 arg9 harg9 arg10 harg10 arg11 harg11 X3 X4 X5 g9 g11) = _
  rw [b_v368, b_v370, b_v378, b_v384]; rfl

/-- The accumulators after all thirteen key blocks. -/
theorem end10 (p : Fin 8) : rdA arg10 (arg10.view.writes (Elt F) arg10.view.junk (bodyRun.sl.H10_8 (F := F) c i arg3 harg3 arg4 harg4 arg5 harg5 arg6 harg6 arg7 harg7 arg8 harg8 arg9 harg9 arg10 harg10 arg11 harg11 X3 X4 X5 g9 g11)) p = stA k0_pay136 (kn arg4 X4) (vn arg5 X5) (rdQ arg3 X3 p) 13 := by
  match p with
  | 0 => exact end10_0 ..
  | 1 => exact end10_1 ..
  | 2 => exact end10_2 ..
  | 3 => exact end10_3 ..
  | 4 => exact end10_4 ..
  | 5 => exact end10_5 ..
  | 6 => exact end10_6 ..
  | 7 => exact end10_7 ..

end Cert.KernelIdeal.Body

end
-- ==== Proof.Block.lean ====
/-
  The block of the result the attention body leaves at a grid point, over the extended reals: for each of its entries the
  blockwise softmax's quotient, times the gate; a function of the four input blocks alone.
-/
module

public import proofs.«01_k».proof.Proof.Pure
public import proofs.«01_k».proof.Proof.BodyValue
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe

/-- The result block at its coordinates. -/
def attv (x0 : Vec Ideal S1x1024x512 .fp8e4m3) (x1 : Vec Ideal S1x1x16640x256 .fp8e4m3) (x2 : Vec Ideal S1x64x16640 .bf16) (x3 : Vec Ideal S1x512x256 .bf16)
    (r : Fin 512) (e : Fin 256) : EReal :=
  Ideal.div (Softmax.kA (sco x0 x1 ⟨e.val / 64, by omega⟩ r) (val x2 ⟨e.val % 64, by omega⟩) 13)
      (Softmax.kA (sco x0 x1 ⟨e.val / 64, by omega⟩ r) (val x2 64) 13)
    * (x3 (ix3 0 r e) * Ideal.div 1 (1 + Ideal.exp (-x3 (ix3 0 r e))))

/-- The result block. -/
def attB (x0 : Vec Ideal S1x1024x512 .fp8e4m3) (x1 : Vec Ideal S1x1x16640x256 .fp8e4m3) (x2 : Vec Ideal S1x64x16640 .bf16) (x3 : Vec Ideal S1x512x256 .bf16) :
    Vec Ideal S1x512x256 .bf16 := fun y => attv x0 x1 x2 x3 (y 1) (y 2)

section
variable (c : Dev nD) (i : grid0.Coords) (arg3 : Memref sig .tc .vmem S1x1024x512 .fp8e4m3) (harg3 : arg3.IsWhole) (arg4 : Memref sig .tc .vmem S1x1x16640x256 .fp8e4m3) (harg4 : arg4.IsWhole) (arg5 : Memref sig .tc .vmem S1x64x16640 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x1x512 .f32) (harg8 : arg8.IsWhole) (arg9 : Memref sig .tc .vmem S2x4x1x512 .f32) (harg9 : arg9.IsWhole) (arg10 : Memref sig .tc .vmem S4x80x512 .f32) (harg10 : arg10.IsWhole) (arg11 : Memref sig .tc .vmem S2x4x1280x512 .f32) (harg11 : arg11.IsWhole)
  (x0 : Vec Ideal S1x1024x512 .fp8e4m3) (x1 : Vec Ideal S1x1x16640x256 .fp8e4m3) (x2 : Vec Ideal S1x64x16640 .bf16) (x3 : Vec Ideal S1x512x256 .bf16)
  (g9 : BufTy.Contents (Elt Ideal) arg9.view.ty) (g11 : BufTy.Contents (Elt Ideal) arg11.view.ty)

/-- What the accumulators hold after the loop. -/
abbrev fin10 : BufTy.Contents (Elt Ideal) arg10.view.ty :=
  arg10.view.writes (Elt Ideal) arg10.view.junk (bodyRun.sl.H10_8 (F := Ideal) c i arg3 harg3 arg4 harg4 arg5 harg5 arg6 harg6 arg7 harg7 arg8 harg8 arg9 harg9 arg10 harg10 arg11 harg11 (harg3.unread x0) (harg4.unread x1) (harg5.unread x2) g9 g11)

/-- The accumulators after the loop, entry by entry. -/
theorem fin10_at (h : Fin 4) (d : Fin 80) (r : Fin 512) :
    arg10.view.read (Elt Ideal) (fin10 c i arg3 harg3 arg4 harg4 arg5 harg5 arg6 harg6 arg7 harg7 arg8 harg8 arg9 harg9 arg10 harg10 arg11 harg11 x0 x1 x2 g9 g11) (ix3 h d r) = Softmax.kA (sco x0 x1 h r) (val x2 d) 13 := by
  have e := congrFun (end10 (F := Ideal) c i arg3 harg3 arg4 harg4 arg5 harg5 arg6 harg6 arg7 harg7 arg8 harg8 arg9 harg9 arg10 harg10 arg11 harg11 (harg3.unread x0) (harg4.unread x1) (harg5.unread x2) g9 g11 ⟨2 * h.val + r.val / 256, by omega⟩) (ix3 0 d ⟨r.val % 256, by omega⟩)
  rw [stA_at x0 x1 x2 _ _ _ h r ⟨r.val % 256, by omega⟩ ?_ ?_ ?_ d 13 le_rfl] at e
  · rw [← e, rdA, View.readAt_apply]
    refine congrArg _ (funext fun a => Fin.ext ?_)
    rw [LoadRect.idx_apply]
    fin_cases a
    · show h.val = (2 * h.val + r.val / 256) / 2 + 1 * 0
      omega
    · show d.val = 0 + 1 * d.val
      omega
    · show r.val = 256 * ((2 * h.val + r.val / 256) % 2) + 1 * (r.val % 256)
      omega
  · intro j hj u k
    refine (Memref.IsWhole.readAt_unread harg4 x1 _ _).trans (congrArg x1 (funext fun a => Fin.ext ?_))
    rw [LoadRect.idx_apply]
    fin_cases a
    · rfl
    · rfl
    · show 1280 * min j 12 + 1 * u.val = 1280 * j + u.val
      omega
    · show 0 + 1 * k.val = k.val
      omega
  · intro j hj d' u
    refine (Memref.IsWhole.readAt_unread harg5 x2 _ _).trans (congrArg x2 (funext fun a => Fin.ext ?_))
    rw [LoadRect.idx_apply]
    fin_cases a
    · rfl
    · show 0 + 1 * d'.val = d'.val
      omega
    · show 1280 * min j 12 + 1 * u.val = 1280 * j + u.val
      omega
  · intro k
    refine (Memref.IsWhole.readAt_unread harg3 x0 _ _).trans (congrArg x0 (funext fun a => Fin.ext ?_))
    rw [LoadRect.idx_apply]
    fin_cases a
    · rfl
    · show 256 * ((2 * h.val + r.val / 256) / 2) + 1 * k.val = 256 * h.val + k.val
      omega
    · show 256 * ((2 * h.val + r.val / 256) % 2) + 1 * (r.val % 256) = r.val
      omega

/-- A head's accumulated values as the body reads them. -/
theorem accv_at (h : Fin 4) (inb) (d : Fin 64) (r : Fin 512) :
    arg10.view.readCov (bodyRun.sl.H10_8 (F := Ideal) c i arg3 harg3 arg4 harg4 arg5 harg5 arg6 harg6 arg7 harg7 arg8 harg8 arg9 harg9 arg10 harg10 arg11 harg11 (harg3.unread x0) (harg4.unread x1) (harg5.unread x2) g9 g11) (Rect.unit (s := S4x80x512) ![h.val, 0, 0] S1x64x512.size inb).toLoadRect (ix3 0 d r)
      = Softmax.kA (sco x0 x1 h r) (val x2 ⟨d.val, by omega⟩) 13 := by
  rw [← fin10_at c i arg3 harg3 arg4 harg4 arg5 harg5 arg6 harg6 arg7 harg7 arg8 harg8 arg9 harg9 arg10 harg10 arg11 harg11 x0 x1 x2 g9 g11]
  refine congrArg (arg10.view.read (Elt Ideal) (fin10 c i arg3 harg3 arg4 harg4 arg5 harg5 arg6 harg6 arg7 harg7 arg8 harg8 arg9 harg9 arg10 harg10 arg11 harg11 x0 x1 x2 g9 g11)) (funext fun a => Fin.ext ?_)
  rw [LoadRect.idx_apply]
  fin_cases a
  · show h.val + 1 * 0 = h.val
    omega
  · show 0 + 1 * d.val = d.val
    omega
  · show 0 + 1 * r.val = r.val
    omega

/-- A head's sums of weights as the body reads them. -/
theorem accs_at (h : Fin 4) (inb) (r : Fin 512) :
    arg10.view.readCov (bodyRun.sl.H10_8 (F := Ideal) c i arg3 harg3 arg4 harg4 arg5 harg5 arg6 harg6 arg7 harg7 arg8 harg8 arg9 harg9 arg10 harg10 arg11 harg11 (harg3.unread x0) (harg4.unread x1) (harg5.unread x2) g9 g11) (Rect.unit (s := S4x80x512) ![h.val, 64, 0] S1x1x512.size inb).toLoadRect (ix3 0 0 r)
      = Softmax.kA (sco x0 x1 h r) (val x2 64) 13 := by
  rw [← fin10_at c i arg3 harg3 arg4 harg4 arg5 harg5 arg6 harg6 arg7 harg7 arg8 harg8 arg9 harg9 arg10 harg10 arg11 harg11 x0 x1 x2 g9 g11]
  refine congrArg (arg10.view.read (Elt Ideal) (fin10 c i arg3 harg3 arg4 harg4 arg5 harg5 arg6 harg6 arg7 harg7 arg8 harg8 arg9 harg9 arg10 harg10 arg11 harg11 x0 x1 x2 g9 g11)) (funext fun a => Fin.ext ?_)
  rw [LoadRect.idx_apply]
  fin_cases a
  · show h.val + 1 * 0 = h.val
    omega
  · rfl
  · show 0 + 1 * r.val = r.val
    omega

/-- The vector the body stores is the block. -/
theorem pay_eq :
    k0_pay1 (bodyRun.sl.r_19 (F := Ideal) c i arg3 harg3 arg4 harg4 arg5 harg5 arg6 harg6 arg7 harg7 arg8 harg8 arg9 harg9 arg10 harg10 arg11 harg11 (harg3.unread x0) (harg4.unread x1) (harg5.unread x2) g9 g11)
      (View.readAt (Elt Ideal) arg6.view (Rect.unit (s := S1x512x256) ![0, 0, 0] S1x512x256.size inb_S1x512x256_S1x512x256_0_0_0).toLoadRect (harg6.unread x3)) = attB x0 x1 x2 x3 := by
  have ez : View.readAt (Elt Ideal) arg6.view (Rect.unit (s := S1x512x256) ![0, 0, 0] S1x512x256.size inb_S1x512x256_S1x512x256_0_0_0).toLoadRect (harg6.unread x3) = x3 := by
    funext y
    rw [Memref.IsWhole.readAt_unread]
    refine congrArg _ (funext fun a => Fin.ext ?_)
    rw [LoadRect.idx_apply]
    fin_cases a
    · show 0 + 1 * (y 0).val = (y 0).val
      omega
    · show 0 + 1 * (y 1).val = (y 1).val
      omega
    · show 0 + 1 * (y 2).val = (y 2).val
      omega
  rw [ez]
  funext y
  have h0 : y = ix3 0 (y 1) (y 2) := by
    funext a
    fin_cases a
    · exact Fin.ext (by have := (y 0).isLt; show (y 0).val = 0; have : (y 0).val < 1 := (y 0).isLt; omega)
    · rfl
    · rfl
  rw [h0]
  unfold bodyRun.sl.r_19
  exact out_at _ _ _ _ _ _ _ _ x3 (fun h d r => Softmax.kA (sco x0 x1 h r) (val x2 d) 13)
    (fun d r => accv_at c i arg3 harg3 arg4 harg4 arg5 harg5 arg6 harg6 arg7 harg7 arg8 harg8 arg9 harg9 arg10 harg10 arg11 harg11 x0 x1 x2 g9 g11 0 _ d r) (fun r => accs_at c i arg3 harg3 arg4 harg4 arg5 harg5 arg6 harg6 arg7 harg7 arg8 harg8 arg9 harg9 arg10 harg10 arg11 harg11 x0 x1 x2 g9 g11 0 _ r)
    (fun d r => accv_at c i arg3 harg3 arg4 harg4 arg5 harg5 arg6 harg6 arg7 harg7 arg8 harg8 arg9 harg9 arg10 harg10 arg11 harg11 x0 x1 x2 g9 g11 1 _ d r) (fun r => accs_at c i arg3 harg3 arg4 harg4 arg5 harg5 arg6 harg6 arg7 harg7 arg8 harg8 arg9 harg9 arg10 harg10 arg11 harg11 x0 x1 x2 g9 g11 1 _ r)
    (fun d r => accv_at c i arg3 harg3 arg4 harg4 arg5 harg5 arg6 harg6 arg7 harg7 arg8 harg8 arg9 harg9 arg10 harg10 arg11 harg11 x0 x1 x2 g9 g11 2 _ d r) (fun r => accs_at c i arg3 harg3 arg4 harg4 arg5 harg5 arg6 harg6 arg7 harg7 arg8 harg8 arg9 harg9 arg10 harg10 arg11 harg11 x0 x1 x2 g9 g11 2 _ r)
    (fun d r => accv_at c i arg3 harg3 arg4 harg4 arg5 harg5 arg6 harg6 arg7 harg7 arg8 harg8 arg9 harg9 arg10 harg10 arg11 harg11 x0 x1 x2 g9 g11 3 _ d r) (fun r => accs_at c i arg3 harg3 arg4 harg4 arg5 harg5 arg6 harg6 arg7 harg7 arg8 harg8 arg9 harg9 arg10 harg10 arg11 harg11 x0 x1 x2 g9 g11 3 _ r)
    (y 1) (y 2)

/-- What the run leaves in the result's memref, whatever was in it and in the scratches. -/
theorem left_eq (g7 : BufTy.Contents (Elt Ideal) arg7.view.ty) (g8 : BufTy.Contents (Elt Ideal) arg8.view.ty) (g10 : BufTy.Contents (Elt Ideal) arg10.view.ty) :
    arg7.view.read (Elt Ideal) (arg7.view.writes (Elt Ideal) g7 (bodyRun (F := Ideal) c i arg3 harg3 arg4 harg4 arg5 harg5 arg6 harg6 arg7 harg7 arg8 harg8 arg9 harg9 arg10 harg10 arg11 harg11 (harg3.unread x0) (harg4.unread x1) (harg5.unread x2) (harg6.unread x3) g8 g9 g10 g11).1) = attB x0 x1 x2 x3 := by
  rw [← pay_eq c i arg3 harg3 arg4 harg4 arg5 harg5 arg6 harg6 arg7 harg7 arg8 harg8 arg9 harg9 arg10 harg10 arg11 harg11 x0 x1 x2 x3 g9 g11]
  have e : (bodyRun (F := Ideal) c i arg3 harg3 arg4 harg4 arg5 harg5 arg6 harg6 arg7 harg7 arg8 harg8 arg9 harg9 arg10 harg10 arg11 harg11 (harg3.unread x0) (harg4.unread x1) (harg5.unread x2) (harg6.unread x3) g8 g9 g10 g11).1
      = [⟨Rect.unit (s := S1x512x256) ![0, 0, 0] S1x512x256.size inb_S1x512x256_S1x512x256_0_0_0, k0_pay1 (bodyRun.sl.r_19 (F := Ideal) c i arg3 harg3 arg4 harg4 arg5 harg5 arg6 harg6 arg7 harg7 arg8 harg8 arg9 harg9 arg10 harg10 arg11 harg11 (harg3.unread x0) (harg4.unread x1) (harg5.unread x2) g9 g11)
      (View.readAt (Elt Ideal) arg6.view (Rect.unit (s := S1x512x256) ![0, 0, 0] S1x512x256.size inb_S1x512x256_S1x512x256_0_0_0).toLoadRect (harg6.unread x3))⟩] := by
    unfold bodyRun; rfl
  rw [e]
  funext y
  have h := congrFun (hit (Val := Elt Ideal) arg7.view g7 (Rect.unit (s := S1x512x256) ![0, 0, 0] S1x512x256.size inb_S1x512x256_S1x512x256_0_0_0) (k0_pay1 (bodyRun.sl.r_19 (F := Ideal) c i arg3 harg3 arg4 harg4 arg5 harg5 arg6 harg6 arg7 harg7 arg8 harg8 arg9 harg9 arg10 harg10 arg11 harg11 (harg3.unread x0) (harg4.unread x1) (harg5.unread x2) g9 g11)
      (View.readAt (Elt Ideal) arg6.view (Rect.unit (s := S1x512x256) ![0, 0, 0] S1x512x256.size inb_S1x512x256_S1x512x256_0_0_0).toLoadRect (harg6.unread x3))) []) y
  refine Eq.trans ?_ h
  rw [View.readAt_apply]
  refine congrArg _ (funext fun a => Fin.ext ?_)
  rw [LoadRect.idx_apply]
  fin_cases a
  · show (y 0).val = 0 + 1 * (y 0).val
    omega
  · show (y 1).val = 0 + 1 * (y 1).val
    omega
  · show (y 2).val = 0 + 1 * (y 2).val
    omega

end

end Cert.KernelIdeal.Body

end
-- ==== Proof.Exact.lean ====
/-
  The attention call's run over the extended reals with the result's blocks named: the pipeline's proof data, its body
  obligation and its launch.
-/
module

public import proofs.«01_k».proof.Proof.AttnFrame
public import proofs.«01_k».proof.Proof.Block

@[expose] public section

set_option maxRecDepth 16384

noncomputable section

namespace Cert.KernelIdeal.Exact

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the result's buffer holds after point `t`. -/
def blkOut (c : Dev nD) (t : Fin cfg0.N) : Vec Ideal S1x512x256 .bf16 := attB (iblk m c 0 t) (iblk m c 1 t) (iblk m c 2 t) (iblk m c 3 t)

/-- The proof data: the arrays as the region finds them, each input's buffer left at its block, the result's at the
    attention's block. -/
def xdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blkOut m c t
  Φ _ := Pipeline.ΦA spec0 c
  q _ := fullShare
  owed _ := 0

/-- The arrays at the region's entry. -/
theorem xA_eq (c : Dev nD) (w : Fin cfg0.W) : (xdats m 0 c).A w = V m c (Pipeline.arrRef spec0 w) := by
  dsimp only [xdats]
/-- The queries' buffer after a point. -/
theorem xafter0 (c : Dev nD) (t : Fin cfg0.N) : (xdats m 0 c).after 0 t = iblk m c 0 t := by dsimp only [xdats]
/-- The keys' buffer after a point. -/
theorem xafter1 (c : Dev nD) (t : Fin cfg0.N) : (xdats m 0 c).after 1 t = iblk m c 1 t := by dsimp only [xdats]
/-- The values' buffer after a point. -/
theorem xafter2 (c : Dev nD) (t : Fin cfg0.N) : (xdats m 0 c).after 2 t = iblk m c 2 t := by dsimp only [xdats]
/-- The gates' buffer after a point. -/
theorem xafter3 (c : Dev nD) (t : Fin cfg0.N) : (xdats m 0 c).after 3 t = iblk m c 3 t := by dsimp only [xdats]
/-- The result's buffer after a point. -/
theorem xafter4 (c : Dev nD) (t : Fin cfg0.N) : (xdats m 0 c).after 4 t = blkOut m c t := by dsimp only [xdats]
/-- The queries' buffer before a point. -/
theorem xbefore0 (c : Dev nD) (t : Fin cfg0.N) (d) : (xdats m 0 c).before 0 t d = iblk m c 0 t :=
  before0_0_of m (xdats m 0 c) (xA_eq m c 0) (xafter0 m c) t d
/-- The keys' buffer before a point. -/
theorem xbefore1 (c : Dev nD) (t : Fin cfg0.N) (d) : (xdats m 0 c).before 1 t d = iblk m c 1 t :=
  before0_1_of m (xdats m 0 c) (xA_eq m c 1) (xafter1 m c) t d
/-- The values' buffer before a point. -/
theorem xbefore2 (c : Dev nD) (t : Fin cfg0.N) (d) : (xdats m 0 c).before 2 t d = iblk m c 2 t :=
  before0_2_of m (xdats m 0 c) (xA_eq m c 2) (xafter2 m c) t d
/-- The gates' buffer before a point. -/
theorem xbefore3 (c : Dev nD) (t : Fin cfg0.N) (d) : (xdats m 0 c).before 3 t d = iblk m c 3 t :=
  before0_3_of m (xdats m 0 c) (xA_eq m c 3) (xafter3 m c) t d

/-- What the body is called with at point `t`. -/
def xPre (c : Dev nD) (t : Fin cfg0.N) : sProp 𝕄 :=
  iprop((xdats m 0 c).Φ t.castSucc ∗ (xdats m 0 c).owesAt () t.castSucc
    ∗ (∃ d, owns (c : Thread nD τ) (ms0 t) fullShare ((xdats m 0 c).before 0 t d))
    ∗ (∃ d, owns (c : Thread nD τ) (ms1 t) fullShare ((xdats m 0 c).before 1 t d))
    ∗ (∃ d, owns (c : Thread nD τ) (ms2 t) fullShare ((xdats m 0 c).before 2 t d))
    ∗ (∃ d, owns (c : Thread nD τ) (ms3 t) fullShare ((xdats m 0 c).before 3 t d))
    ∗ (∃ d, owns (c : Thread nD τ) (ms4 t) fullShare ((xdats m 0 c).before 4 t d)))

/-- What the body returns at point `t`. -/
def xPost (c : Dev nD) (t : Fin cfg0.N) : sProp 𝕄 :=
  iprop((xdats m 0 c).Φ t.succ ∗ (xdats m 0 c).owesAt () t.succ
    ∗ owns (c : Thread nD τ) (ms0 t) fullShare ((xdats m 0 c).after 0 t)
    ∗ owns (c : Thread nD τ) (ms1 t) fullShare ((xdats m 0 c).after 1 t)
    ∗ owns (c : Thread nD τ) (ms2 t) fullShare ((xdats m 0 c).after 2 t)
    ∗ owns (c : Thread nD τ) (ms3 t) fullShare ((xdats m 0 c).after 3 t)
    ∗ owns (c : Thread nD τ) (ms4 t) fullShare ((xdats m 0 c).after 4 t))

/-- The found pieces written over anything are the attention's block. -/
theorem outBlock_eq (c : Dev nD) (t : Fin cfg0.N) (x0 : Vec Ideal S1x1024x512 .fp8e4m3) (x1 : Vec Ideal S1x1x16640x256 .fp8e4m3) (x2 : Vec Ideal S1x64x16640 .bf16) (x3 : Vec Ideal S1x512x256 .bf16) (g7 g8 g9 g10 g11) :
    (ms4 t).view.read (Elt Ideal) ((ms4 t).view.writes (Elt Ideal) g7 (outBlock c t x0 x1 x2 x3 g8 g9 g10 g11)) = attB x0 x1 x2 x3 := by
  unfold outBlock
  exact left_eq ..

/-- The body at any point. -/
theorem xsound (c : Dev nD) (t : Fin cfg0.N) :
    xPre m c t ⊢ wp frame (wpE (defs₀ (F := Ideal)) Variants.none c none) Set.univ (bodyAt0 t) (fun _ => xPost m c t) := by
  unfold xPre xPost
  simp only [xbefore0, xbefore1, xbefore2, xbefore3]
  rw [show (xdats m 0 c).Φ t.succ = (xdats m 0 c).Φ t.castSucc from rfl,
    show (xdats m 0 c).owesAt () t.succ = (xdats m 0 c).owesAt () t.castSucc from rfl,
    xafter0, xafter1, xafter2, xafter3, xafter4]
  rw [show (xdats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply (bodyTriple c t (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%g7, %g8, %g9, %g10, %g11, H4⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  rw [outBlock_eq]
  iexact H4

/-- The library's body obligation at every point. -/
theorem xobligation (c : Dev nD) : BodyObligation (xdats m 0 c) (defs₀ (F := Ideal)) Variants.none () Set.univ := fun t => by
  rw [bigSep_W0, bigSep_W0, body_row]
  exact triple_restated (xsound m c t) rfl .rfl fun _ => .rfl

set_option backward.isDefEq.respectTransparency.types false in
/-- The launch, with every semaphore counter at zero at the end. -/
theorem xrun : θ_run defs (onTc (τ := τ) (main (F := Ideal))) (s₀ m ρ) (fun r => Pipeline.FramePost cfgs (xdats m) (0 : Fin 1) (V m) r ∧ r.2.sem = fun _ => 0) :=
  Pipeline.θ_run_frame (Q' := _) cfgs (xdats m) (0 : Fin 1) launch0 defs₀ Variants.none m ρ main
    (hbody := fun c => (xobligation m c).loose) (hshare := fun c => (xdats m 0 c).share_full fun _ => rfl)
    (howed := fun _ _ => rfl) (V := V m) (hmain := hmain m Variants.none) (hA := xA_eq m) (hΦ := fun _ _ => rfl)

end Cert.KernelIdeal.Exact

end
-- ==== Proof.RefPure.lean ====
/-
  The reference's composed result read at an index, over the extended reals.
-/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen
open Idealize.ShloMosaic Idealize.ShloMosaic.TcCoe

/-- The scaled scores of the queries against all keys. -/
def SC (qt : FVec Ideal S2x2048x16384 .f32) (K : FVec Ideal S2x2x16640x256 .f32) : FVec Ideal S2x2x4x16384x16640 .f32 :=
  (mulf (Host.dotGeneral dot_S2x2x4x256x16384_S2x2x16640x256_S2x2x4x16384x16640_3_3_24_2_01_01 none (shapeCast _ qt shapeCasts_S2x2048x16384_S2x2x4x256x16384) K) (broadcastInDim S2x2x4x16384x16640 ![] bcast_S_S2x2x4x16384x16640 (Host.log (constant S_ .f32 0x40000000#32))))
/-- Given row maxima, from minus infinity. -/
def MXR (R : FVec Ideal S2x2x4x16384 .f32) : FVec Ideal S2x2x4x16384 .f32 :=
  (maximumf (broadcastInDim S2x2x4x16384 ![] bcast_S_S2x2x4x16384 (constant S_ .f32 0xFF800000#32)) R)
/-- Each row's maximum. -/
def MX (S : FVec Ideal S2x2x4x16384x16640 .f32) : FVec Ideal S2x2x4x16384 .f32 := MXR (Host.reduce FloatOps.maximumf S (constant S_ .f32 0xFF800000#32) reducesTo_S2x2x4x16384x16640_S2x2x4x16384_d4 h_S_)
/-- The exponentials of the scores below given row maxima. -/
def EXM (S : FVec Ideal S2x2x4x16384x16640 .f32) (M : FVec Ideal S2x2x4x16384 .f32) : FVec Ideal S2x2x4x16384x16640 .f32 :=
  (Host.exp (subf S (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 M))))
/-- The exponentials of the scores below each row's maximum. -/
def EX (S : FVec Ideal S2x2x4x16384x16640 .f32) : FVec Ideal S2x2x4x16384x16640 .f32 := EXM S (MX S)
/-- The rows divided by their sums. -/
def PR (E : FVec Ideal S2x2x4x16384x16640 .f32) : FVec Ideal S2x2x4x16384x16640 .f32 :=
  (Host.divf E (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (Host.reduceAdd E (constant S_ .f32 0x00000000#32) reducesTo_S2x2x4x16384x16640_S2x2x4x16384_d4 h_S_))))
/-- The weighted values, gated. -/
def OUT (V : FVec Ideal S2x128x16640 .bf16) (P : FVec Ideal S2x16384x8192 .bf16) (p : FVec Ideal S2x2x4x16384x16640 .f32) : FVec Ideal S2x16384x512 .bf16 :=
  truncf .bf16 (mulf (shapeCast _ (transpose S2x16384x2x4x64 [0, 4, 1, 3, 2] (Host.dotGeneral dot_S2x2x64x16640_S2x2x4x16384x16640_S2x2x64x4x16384_3_4_2_23_01_01 none (shapeCast _ (extf .f32 V bitsLt_bf16_f32) shapeCasts_S2x128x16640_S2x2x64x16640) p) transposes_S2x2x64x4x16384_S2x16384x2x4x64_0_4_1_3_2) shapeCasts_S2x16384x2x4x64_S2x16384x512) (mulf (extf .f32 (extractStridedSlice S2x16384x512 ![0, 0, 6144] P slices_S2x16384x8192_S2x16384x512_0_0_6144) bitsLt_bf16_f32) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extf .f32 (extractStridedSlice S2x16384x512 ![0, 0, 6144] P slices_S2x16384x8192_S2x16384x512_0_0_6144) bitsLt_bf16_f32))))))) bitsLt_bf16_f32

theorem SC_at (qt : FVec Ideal S2x2048x16384 .f32) (K : FVec Ideal S2x2x16640x256 .f32) (b g : Fin 2) (h : Fin 4) (q : Fin 16384) (n : Fin 16640) :
    SC qt K (ix5 b g h q n) = (∑ x : Fin 256, qt (ix3 b ⟨g.val * 1024 + h.val * 256 + x.val, by omega⟩ q) * K (ix4 b g n x)) * Ideal.log (Ideal.ofBits .f32 0x40000000#32) := by
  pointwise [SC]

theorem RD_at (S : FVec Ideal S2x2x4x16384x16640 .f32) (b g : Fin 2) (h : Fin 4) (q : Fin 16384) :
    (Host.reduce FloatOps.maximumf S (constant S_ .f32 0xFF800000#32) reducesTo_S2x2x4x16384x16640_S2x2x4x16384_d4 h_S_) (ix4 b g h q) = Finset.univ.fold max (Ideal.ofBits .f32 0xFF800000#32) fun x : Fin 16640 => S (ix5 b g h q x) := by
  pointwise

theorem MXR_at (R : FVec Ideal S2x2x4x16384 .f32) (b g : Fin 2) (h : Fin 4) (q : Fin 16384) :
    MXR R (ix4 b g h q) = max (Ideal.ofBits .f32 0xFF800000#32) (R (ix4 b g h q)) := by
  pointwise [MXR]

theorem MX_at (S : FVec Ideal S2x2x4x16384x16640 .f32) (b g : Fin 2) (h : Fin 4) (q : Fin 16384) :
    MX S (ix4 b g h q) = max (Ideal.ofBits .f32 0xFF800000#32) (Finset.univ.fold max (Ideal.ofBits .f32 0xFF800000#32) fun x : Fin 16640 => S (ix5 b g h q x)) := by
  rw [MX, MXR_at, RD_at]

theorem EXM_at (S : FVec Ideal S2x2x4x16384x16640 .f32) (M : FVec Ideal S2x2x4x16384 .f32) (b g : Fin 2) (h : Fin 4) (q : Fin 16384) (n : Fin 16640) :
    EXM S M (ix5 b g h q n) = Ideal.exp (S (ix5 b g h q n) - M (ix4 b g h q)) := by
  pointwise [EXM]

theorem EX_at (S : FVec Ideal S2x2x4x16384x16640 .f32) (b g : Fin 2) (h : Fin 4) (q : Fin 16384) (n : Fin 16640) :
    EX S (ix5 b g h q n) = Ideal.exp (S (ix5 b g h q n) - max (Ideal.ofBits .f32 0xFF800000#32) (Finset.univ.fold max (Ideal.ofBits .f32 0xFF800000#32) fun x : Fin 16640 => S (ix5 b g h q x))) := by
  rw [EX, EXM_at, MX_at]

theorem PR_at (E : FVec Ideal S2x2x4x16384x16640 .f32) (b g : Fin 2) (h : Fin 4) (q : Fin 16384) (n : Fin 16640) :
    PR E (ix5 b g h q n) = Ideal.div (E (ix5 b g h q n)) (∑ x : Fin 16640, E (ix5 b g h q x)) := by
  pointwise [PR]

theorem OUT_at (V : FVec Ideal S2x128x16640 .bf16) (P : FVec Ideal S2x16384x8192 .bf16) (p : FVec Ideal S2x2x4x16384x16640 .f32) (b : Fin 2) (q : Fin 16384) (e : Fin 512) :
    OUT V P p (ix3 b q e) = (∑ x : Fin 16640, V (ix3 b ⟨e.val / 256 * 64 + e.val % 64, by omega⟩ x) * p (ix5 b ⟨e.val / 256, by omega⟩ ⟨e.val / 64 % 4, by omega⟩ q x))
      * (P (ix3 b q ⟨6144 + e.val, by omega⟩) * Ideal.div 1 (1 + Ideal.exp (-P (ix3 b q ⟨6144 + e.val, by omega⟩)))) := by
  pointwise [OUT]

/-- The reference's result buffer, as those four of its arguments. -/
theorem res_eq (m : (ℓ : Loc nD τ sig) → Buf (Elt Ideal) ℓ) (c : Dev nD) :
    Value.res_main_v27 m c = OUT (concatenate S2x128x16640 2 [⟨S2x128x16384, (m ((c.tc : Thread nD τ).loc main_arg3))⟩, ⟨S2x128x256, (m ((c.tc : Thread nD τ).loc main_arg4))⟩] concatenates_S2x128x16384_S2x128x256_S2x128x16640_d2) (m ((c.tc : Thread nD τ).loc main_arg5))
      (PR (EX (SC (m ((c.tc : Thread nD τ).loc main_arg0)) (concatenate S2x2x16640x256 2 [⟨S2x2x16384x256, (m ((c.tc : Thread nD τ).loc main_arg1))⟩, ⟨S2x2x256x256, (m ((c.tc : Thread nD τ).loc main_arg2))⟩] concatenates_S2x2x16384x256_S2x2x256x256_S2x2x16640x256_d2)))) := by
  unfold Value.res_main_v27 OUT PR EX EXM MX MXR SC
  rfl

end Cert.ReferenceIdeal.Att

end
-- ==== Proof.RefPoint.lean ====
/-
  The reference's result at an index as the blockwise softmax over the arrays: where queries and keys are finite every
  score is a real number, and one softmax over all keys is the blockwise one.
-/
module

public import proofs.«01_k».proof.Proof.RefPure
public import proofs.«01_k».proof.Proof.Softmax

@[expose] public section

set_option maxRecDepth 16384

noncomputable section

namespace Cert.ReferenceIdeal.Att

open Cert.ReferenceIdeal Cert.ReferenceIdeal.Gen
open Idealize.ShloMosaic Idealize.ShloMosaic.TcCoe

/-- A head's row of a group's queries is a row of the queries. -/
theorem qrow_lt (g : Fin 2) (h : Fin 4) (k : Fin 256) : g.val * 1024 + h.val * 256 + k.val < 2048 := by omega

/-- A group's value row is a row of the values. -/
theorem vrow_lt (g : Fin 2) (d : Fin 64) : g.val * 64 + d.val < 128 := by omega

/-- The score of key `n` against query `q`. -/
def scoA (qt : FVec Ideal S2x2048x16384 .f32) (K : FVec Ideal S2x2x16640x256 .f32) (b g : Fin 2) (h : Fin 4) (q : Fin 16384) (n : ℕ) : EReal :=
  if hn : n < 16640 then ∑ k : Fin 256, K (ix4 b g ⟨n, hn⟩ k) * qt (ix3 b ⟨g.val * 1024 + h.val * 256 + k.val, qrow_lt g h k⟩ q) else 0

/-- The value of key `n` at depth `d`. -/
def valA (V : FVec Ideal S2x128x16640 .bf16) (b g : Fin 2) (d : Fin 64) (n : ℕ) : EReal :=
  if hn : n < 16640 then V (ix3 b ⟨g.val * 64 + d.val, vrow_lt g d⟩ ⟨n, hn⟩) else 0

/-- A sum of reals among the extended reals. -/
theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of finite queries and keys a score is a real number. -/
theorem scoA_real (qt : FVec Ideal S2x2048x16384 .f32) (K : FVec Ideal S2x2x16640x256 .f32) (hq : ∀ i, ∃ x : ℝ, qt i = (x : EReal)) (hK : ∀ i, ∃ x : ℝ, K i = (x : EReal))
    (b g : Fin 2) (h : Fin 4) (q : Fin 16384) (n : ℕ) : ∃ x : ℝ, scoA qt K b g h q n = (x : EReal) := by
  choose fq hfq using hq
  choose fK hfK using hK
  unfold scoA
  split_ifs with hn
  · refine ⟨∑ k : Fin 256, fK (ix4 b g ⟨n, hn⟩ k) * fq (ix3 b ⟨g.val * 1024 + h.val * 256 + k.val, qrow_lt g h k⟩ q), ?_⟩
    rw [sum_coe]
    exact Finset.sum_congr rfl fun k _ => by rw [hfq, hfK, EReal.coe_mul]
  · exact ⟨0, rfl⟩

/-- The reference at an index. -/
theorem ref_at (qt : FVec Ideal S2x2048x16384 .f32) (K : FVec Ideal S2x2x16640x256 .f32) (V : FVec Ideal S2x128x16640 .bf16) (P : FVec Ideal S2x16384x8192 .bf16)
    (hq : ∀ i, ∃ x : ℝ, qt i = (x : EReal)) (hK : ∀ i, ∃ x : ℝ, K i = (x : EReal)) (b : Fin 2) (q : Fin 16384) (e : Fin 512) :
    OUT V P (PR (EX (SC qt K))) (ix3 b q e)
      = Ideal.div (Softmax.kA (scoA qt K b ⟨e.val / 256, by omega⟩ ⟨e.val / 64 % 4, by omega⟩ q) (valA V b ⟨e.val / 256, by omega⟩ ⟨e.val % 64, by omega⟩) 13)
          (Softmax.kA (scoA qt K b ⟨e.val / 256, by omega⟩ ⟨e.val / 64 % 4, by omega⟩ q) (fun _ => 1) 13)
        * (P (ix3 b q ⟨6144 + e.val, by omega⟩) * Ideal.div 1 (1 + Ideal.exp (-P (ix3 b q ⟨6144 + e.val, by omega⟩)))) := by
  rw [OUT_at]
  generalize P (ix3 b q ⟨6144 + e.val, by omega⟩) * Ideal.div 1 (1 + Ideal.exp (-P (ix3 b q ⟨6144 + e.val, by omega⟩))) = z
  refine congrArg (fun y : EReal => y * z) ?_
  choose S hS using scoA_real qt K hq hK b ⟨e.val / 256, by omega⟩ ⟨e.val / 64 % 4, by omega⟩ q
  rw [show scoA qt K b ⟨e.val / 256, by omega⟩ ⟨e.val / 64 % 4, by omega⟩ q = fun n => (S n : EReal) from funext hS]
  rw [Softmax.softmax_eq S _ (fun n => SC qt K (ix5 b ⟨e.val / 256, by omega⟩ ⟨e.val / 64 % 4, by omega⟩ q n)) ?_]
  · refine Finset.sum_congr rfl fun n _ => ?_
    rw [valA, dif_pos n.isLt, PR_at, EX_at,
      Finset.sum_congr rfl fun x (_ : x ∈ Finset.univ) => EX_at (SC qt K) b ⟨e.val / 256, by omega⟩ ⟨e.val / 64 % 4, by omega⟩ q x]
  · intro n
    rw [SC_at, ← hS, scoA, dif_pos n.isLt]
    refine congrArg (· * _) (Finset.sum_congr rfl fun k _ => mul_comm _ _)

end Cert.ReferenceIdeal.Att

end
-- ==== Proof.KerPoint.lean ====
/-
  The attention call's input blocks as entries of its argument arrays.
-/
module

public import proofs.«01_k».proof.Proof.Exact
public import proofs.«01_k».proof.Proof.RefPoint
public import Idealize.ShloMosaic.Lib.Pipeline.ValueKit

@[expose] public section

set_option maxRecDepth 16384

noncomputable section

namespace Cert.KernelIdeal.Exact

open Cert.KernelIdeal Cert.KernelIdeal.Gen Cert.KernelIdeal.Body
open Idealize.ShloMosaic Idealize.ShloMosaic.TcCoe Idealize.SL.Sem
open Idealize.ShloMosaic.Pipeline (Dat)

variable (m : (ℓ : Loc nD τ sig) → Buf (Elt Ideal) ℓ)

/-- The windows' block indices at every point. -/
theorem idx : ∀ t : Fin cfg0.N, (grid0.coords t 0).val < 2 ∧ (grid0.coords t 1).val < 2 ∧ (grid0.coords t 2).val < 32
    ∧ win0_0.index t = ![(grid0.coords t 0).val, (grid0.coords t 1).val, (grid0.coords t 2).val]
    ∧ win0_1.index t = ![(grid0.coords t 0).val, (grid0.coords t 1).val, 0, 0]
    ∧ win0_2.index t = ![(grid0.coords t 0).val, (grid0.coords t 1).val, 0]
    ∧ win0_3.index t = ![(grid0.coords t 0).val, (grid0.coords t 2).val, 24 + (grid0.coords t 1).val]
    ∧ win0_4.index t = ![(grid0.coords t 0).val, (grid0.coords t 2).val, (grid0.coords t 1).val] :=
  (by decide +kernel : ∀ t : Fin grid0.N, _)

/-- The keys: the ones of the images, then the context's. -/
abbrev keys (c : Dev nD) : FVec Ideal S2x2x16640x256 .f32 :=
  concatenate S2x2x16640x256 2 [⟨S2x2x16384x256, m ((c : Thread nD τ).loc main_arg1)⟩, ⟨S2x2x256x256, m ((c : Thread nD τ).loc main_arg2)⟩] concatenates_S2x2x16384x256_S2x2x256x256_S2x2x16640x256_d2

/-- The values: the ones of the images, then the context's. -/
abbrev vals (c : Dev nD) : FVec Ideal S2x128x16640 .bf16 :=
  concatenate S2x128x16640 2 [⟨S2x128x16384, m ((c : Thread nD τ).loc main_arg3)⟩, ⟨S2x128x256, m ((c : Thread nD τ).loc main_arg4)⟩] concatenates_S2x128x16384_S2x128x256_S2x128x16640_d2

/-- The queries the region finds. -/
theorem V_q (c : Dev nD) : V m c main_v4 = m ((c : Thread nD τ).loc main_arg0) := by
  entry_read
  rfl

/-- The keys the region finds. -/
theorem V_k (c : Dev nD) : V m c main_v2 = keys m c := by
  entry_read
  rfl

/-- The values the region finds. -/
theorem V_v (c : Dev nD) : V m c main_v3 = vals m c := by
  entry_read
  rfl

/-- The batch entry of a point. -/
abbrev pb (t : Fin cfg0.N) : Fin 2 := ⟨(grid0.coords t 0).val, (idx t).1⟩
/-- The key group of a point. -/
abbrev pg (t : Fin cfg0.N) : Fin 2 := ⟨(grid0.coords t 1).val, (idx t).2.1⟩
/-- The query block of a point. -/
abbrev pi (t : Fin cfg0.N) : Fin 32 := ⟨(grid0.coords t 2).val, (idx t).2.2.1⟩

/-- A query block's entry. -/
theorem blk_q (c : Dev nD) (t : Fin cfg0.N) (a : Fin 1024) (r : Fin 512) :
    (iblk m c 0 t : Vec Ideal S1x1024x512 .fp8e4m3) (ix3 0 a r) = (m ((c : Thread nD τ).loc main_arg0) : FVec Ideal S2x2048x16384 .f32) (ix3 (pb t) ⟨1024 * (pg t).val + a.val, by omega⟩ ⟨512 * (pi t).val + r.val, by omega⟩) := by
  refine Eq.trans ?_ (congrFun (V_q m c) _)
  blk_ext [iblk, idx t]

/-- A key block's entry. -/
theorem blk_k (c : Dev nD) (t : Fin cfg0.N) (n : Fin 16640) (k : Fin 256) :
    (iblk m c 1 t : Vec Ideal S1x1x16640x256 .fp8e4m3) (ix4 0 0 n k) = keys m c (ix4 (pb t) (pg t) n k) := by
  rw [← V_k]
  blk_ext [iblk, idx t]

/-- A value block's entry. -/
theorem blk_v (c : Dev nD) (t : Fin cfg0.N) (d : Fin 64) (n : Fin 16640) :
    (iblk m c 2 t : Vec Ideal S1x64x16640 .bf16) (ix3 0 d n) = vals m c (ix3 (pb t) ⟨64 * (pg t).val + d.val, by omega⟩ n) := by
  rw [← V_v]
  blk_ext [iblk, idx t]

/-- A gate block's entry. -/
theorem blk_z (c : Dev nD) (t : Fin cfg0.N) (r : Fin 512) (e : Fin 256) :
    (iblk m c 3 t : Vec Ideal S1x512x256 .bf16) (ix3 0 r e) = (m ((c : Thread nD τ).loc main_arg5) : FVec Ideal S2x16384x8192 .bf16) (ix3 (pb t) ⟨512 * (pi t).val + r.val, by omega⟩ ⟨6144 + (256 * (pg t).val + e.val), by omega⟩) := by
  blk_ext [iblk, V, idx t]

/-- The reference's result over the kernel's arguments. -/
abbrev refV (c : Dev nD) : FVec Ideal S2x16384x512 .bf16 :=
  Cert.ReferenceIdeal.Att.OUT (vals m c) (m ((c : Thread nD τ).loc main_arg5))
    (Cert.ReferenceIdeal.Att.PR (Cert.ReferenceIdeal.Att.EX (Cert.ReferenceIdeal.Att.SC (m ((c : Thread nD τ).loc main_arg0)) (keys m c))))

/-- A block's scores are the arrays'. -/
theorem sco_eq (c : Dev nD) (t : Fin cfg0.N) (h : Fin 4) (r : Fin 512) :
    sco (iblk m c 0 t) (iblk m c 1 t) h r
      = Cert.ReferenceIdeal.Att.scoA (m ((c : Thread nD τ).loc main_arg0)) (keys m c) (pb t) (pg t) h ⟨512 * (pi t).val + r.val, by omega⟩ := by
  funext n
  unfold sco Cert.ReferenceIdeal.Att.scoA
  split_ifs with hn
  · refine Finset.sum_congr rfl fun k _ => ?_
    rw [blk_k, blk_q]
    refine congrArg (fun a : Fin 2048 => keys m c (ix4 (pb t) (pg t) ⟨n, hn⟩ k) * (m ((c : Thread nD τ).loc main_arg0) : FVec Ideal S2x2048x16384 .f32) (ix3 (pb t) a ⟨512 * (pi t).val + r.val, by omega⟩)) (Fin.ext ?_)
    show 1024 * (pg t).val + (256 * h.val + k.val) = (pg t).val * 1024 + h.val * 256 + k.val
    omega
  · rfl

/-- A block's values are the array's. -/
theorem val_eq (c : Dev nD) (t : Fin cfg0.N) (d : Fin 64) :
    val (iblk m c 2 t) ⟨d.val, by omega⟩ = Cert.ReferenceIdeal.Att.valA (vals m c) (pb t) (pg t) d := by
  funext n
  unfold val Cert.ReferenceIdeal.Att.valA
  rw [dif_pos d.isLt]
  split_ifs with hn
  · refine (blk_v m c t d ⟨n, hn⟩).trans (congrArg (fun a : Fin 128 => vals m c (ix3 (pb t) a ⟨n, hn⟩)) (Fin.ext ?_))
    show 64 * (pg t).val + d.val = (pg t).val * 64 + d.val
    omega
  · rfl

/-- The rows of ones. -/
theorem one_eq (x2 : Vec Ideal S1x64x16640 .bf16) : val x2 64 = fun _ => 1 := by
  funext n
  unfold val
  exact dif_neg (by decide)

/-- THE POINT: an entry of a point's block is the reference's entry where the block lies. -/
theorem point (c : Dev nD) (hq : ∀ i, ∃ x : ℝ, (m ((c : Thread nD τ).loc main_arg0) : FVec Ideal S2x2048x16384 .f32) i = (x : EReal)) (hK : ∀ i, ∃ x : ℝ, keys m c i = (x : EReal))
    (t : Fin cfg0.N) (r : Fin 512) (e : Fin 256) :
    blkOut m c t (ix3 0 r e) = refV m c (ix3 (pb t) ⟨512 * (pi t).val + r.val, by omega⟩ ⟨256 * (pg t).val + e.val, by omega⟩) := by
  rw [refV, Cert.ReferenceIdeal.Att.ref_at _ _ _ _ hq hK]
  show attv _ _ _ _ r e = _
  unfold attv
  rw [blk_z, sco_eq, one_eq, val_eq m c t ⟨e.val % 64, by omega⟩]
  have e1 : (⟨(256 * (pg t).val + e.val) / 256, by omega⟩ : Fin 2) = pg t := Fin.ext (by show (256 * (pg t).val + e.val) / 256 = (pg t).val; omega)
  have e2 : (⟨(256 * (pg t).val + e.val) / 64 % 4, by omega⟩ : Fin 4) = ⟨e.val / 64, by omega⟩ := Fin.ext (by show (256 * (pg t).val + e.val) / 64 % 4 = e.val / 64; omega)
  have e3 : (⟨(256 * (pg t).val + e.val) % 64, by omega⟩ : Fin 64) = ⟨e.val % 64, by omega⟩ := Fin.ext (by show (256 * (pg t).val + e.val) % 64 = e.val % 64; omega)
  simp only [e1, e2, e3]

/-- The result array after the run. -/
theorem final (c : Dev nD) (hq : ∀ i, ∃ x : ℝ, (m ((c : Thread nD τ).loc main_arg0) : FVec Ideal S2x2048x16384 .f32) i = (x : EReal)) (hK : ∀ i, ∃ x : ℝ, keys m c i = (x : EReal)) :
    (xdats m 0 c).arrAt 4 (cfgs 0).N = refV m c := by
  refine (xdats m 0 c).arrAt_eq_of_covers 4 _ (by decide +kernel) fun t _ y => ?_
  blk_simp
  rw [xafter4]
  have hy : (y : S1x512x256.Idx) = ix3 0 (y 1) (y 2) := by
    funext a
    fin_cases a
    · exact Fin.ext (by show (y 0).val = 0; have : (y 0).val < 1 := (y 0).isLt; omega)
    · rfl
    · rfl
  refine (congrArg (blkOut m c t) hy).trans ((point m c hq hK t (y 1) (y 2)).trans (congrArg (refV m c) ?_))
  funext a
  refine Fin.ext ?_
  fin_cases a
  · have h0 : (y 0).val < 1 := (y 0).isLt
    blk_simp [idx t]
    rfl
  · blk_simp [idx t]
    show 512 * (grid0.coords t 2).val + (y 1).val = (grid0.coords t 2).val * 512 + (y 1).val
    omega
  · blk_simp [idx t]
    show 256 * (grid0.coords t 1).val + (y 2).val = (grid0.coords t 1).val * 256 + (y 2).val
    omega

/-- A finite element of an array is a real number. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  have hl : max x (-x) < ⊤ := by
    rw [ht] at h
    by_contra hc
    rw [show Ideal.cmp .olt (max x (-x)) ⊤ = BitVec.ofBool (decide (max x (-x) < ⊤)) from rfl, decide_eq_false hc] at h
    exact absurd h (by decide)
  induction x with
  | bot => exact absurd hl (by simp)
  | top => exact absurd hl (by simp)
  | coe r => exact ⟨r, rfl⟩

/-- Of finite parts the keys are finite. -/
theorem keys_real (c : Dev nD) (h1 : ∀ i, ∃ x : ℝ, (m ((c : Thread nD τ).loc main_arg1) : FVec Ideal S2x2x16384x256 .f32) i = (x : EReal))
    (h2 : ∀ i, ∃ x : ℝ, (m ((c : Thread nD τ).loc main_arg2) : FVec Ideal S2x2x256x256 .f32) i = (x : EReal)) (i) : ∃ x : ℝ, keys m c i = (x : EReal) := by
  have e : ∀ (A : FVec Ideal S2x2x16384x256 .f32) (B : FVec Ideal S2x2x256x256 .f32), (∀ i, ∃ x : ℝ, A i = (x : EReal)) → (∀ i, ∃ x : ℝ, B i = (x : EReal)) →
      ∀ (b g : Fin 2) (n : Fin 16640) (k : Fin 256), ∃ x : ℝ, concatenate S2x2x16640x256 2 [⟨S2x2x16384x256, A⟩, ⟨S2x2x256x256, B⟩] concatenates_S2x2x16384x256_S2x2x256x256_S2x2x16640x256_d2 (ix4 b g n k) = (x : EReal) := by
    intro A B hA hB b g n k
    pointwise
    split_ifs
    all_goals first
    | exact hA _
    | exact hB _
    | contradiction
  have hy : i = ix4 (i 0) (i 1) (i 2) (i 3) := by
    funext a
    fin_cases a <;> rfl
  rw [hy]
  exact e _ _ h1 h2 (i 0) (i 1) (i 2) (i 3)

end Cert.KernelIdeal.Exact

end
-- ==== Proof.MergeSpec.lean ====
/-
  The merge call's mathematics on one row: the three branches gated and summed, projected, added to the residual stream,
  and normalised.
-/
module

public import Idealize.ShloMosaic.PureOps.Ideal
public import Idealize.ShloMosaic.PureOps.Ideal.Laws

@[expose] public section

noncomputable section

namespace Cert.Merge

open Idealize.ShloMosaic

/-- The logistic function. -/
def logi (x : EReal) : EReal := Ideal.div 1 (1 + Ideal.exp (-x))

/-- The third branch, gated. -/
def gated (y z : Fin 512 → EReal) (k : Fin 512) : EReal := y k * (z k * logi (z k))

/-- The three branches projected, each times its weight. -/
def mix (yg ya yh : Fin 512 → EReal) (mg ma mh : Fin 1024 → EReal) (wg wa wh : Fin 512 → Fin 1024 → EReal) (j : Fin 1024) : EReal :=
  logi (mg j) * (∑ k, yg k * wg k j) + logi (ma j) * (∑ k, ya k * wa k j) + logi (mh j) * (∑ k, yh k * wh k j)

/-- The residual stream after the layer. -/
def stream (y : Fin 1024 → EReal) (x gate : Fin 1024 → EReal) (wo : Fin 1024 → Fin 1024 → EReal) (d : Fin 1024) : EReal :=
  x d + gate d * ∑ j, y j * wo j d

/-- A row over its root mean square. -/
def unit (x : Fin 1024 → EReal) (d : Fin 1024) : EReal :=
  x d * Ideal.rsqrt (Ideal.div (∑ e, x e * x e) (Ideal.ofBits .f32 0x44800000#32) + Ideal.ofBits .f32 0x358637BD#32)

end Cert.Merge

end
-- ==== Proof.MergeRef.lean ====
/-
  The merge's reference read at an index.
-/
module

public import proofs.«01_k».proof.Proof.MergeSpec
public import proofs.«01_k».proof.Proof.Gen.Reference2Ideal.Read
public import Idealize.ShloMosaic.Lib.Pointwise

@[expose] public section

set_option maxRecDepth 16384

noncomputable section

namespace Cert.Reference2Ideal.Point

open Cert.Reference2Ideal Cert.Reference2Ideal.Gen Cert.Reference2Ideal.Read Cert.Merge
open Idealize.ShloMosaic Idealize.ShloMosaic.TcCoe

variable (yg ya : FVec Ideal S2x16384x512 .bf16) (yh : FVec Ideal S2x16384x512 .f32) (P : FVec Ideal S2x16384x8192 .bf16) (x : FVec Ideal S2x16384x1024 .f32)
  (gate : FVec Ideal S2x1024 .f32) (wg wa wh : FVec Ideal S512x1024 .f32) (wo : FVec Ideal S1024x1024 .f32) (fn : FVec Ideal S1024 .f32)

/-- The gated third branch, at an index. -/
theorem gated_at (b : Fin 2) (l : Fin 16384) (k : Fin 512) :
    val_main_v4 (F := Ideal) yh P (ix3 b l k)
      = gated (fun k => yh (ix3 b l k)) (fun k => P (ix3 b l ⟨6656 + k.val, Nat.lt_of_lt_of_le (Nat.add_lt_add_left k.isLt 6656) (by decide)⟩)) k := by
  unfold gated logi
  pointwise [val_main_v4, val_main_v3, val_main_call0_v5, val_main_call0_v4, val_main_call0_cst_0, val_main_call0_v3, val_main_call0_v2, val_main_call0_cst, val_main_call0_v1, val_main_call0_v0, val_main_v1, val_main_v0]

/-- The branches' weights, at an index. -/
theorem weight_at (b : Fin 2) (l : Fin 16384) (j : Fin 3072) :
    val_main_v13 (F := Ideal) P (ix3 b l j) = logi (P (ix3 b l ⟨j.val, Nat.lt_of_lt_of_le j.isLt (by decide)⟩)) := by
  unfold logi
  pointwise [val_main_v13, val_main_v12, val_main_cst_0, val_main_v11, val_main_v10, val_main_cst, val_main_v9, val_main_v8, val_main_v7, val_main_v2]

/-- The branches' weighted sum, at an index. -/
theorem mix_at (b : Fin 2) (l : Fin 16384) (j : Fin 1024) :
    val_main_v24 (F := Ideal) yg ya yh P wg wa wh (ix3 b l j)
      = mix (fun k => yg (ix3 b l k)) (fun k => ya (ix3 b l k))
          (gated (fun k => yh (ix3 b l k)) fun k => P (ix3 b l ⟨6656 + k.val, Nat.lt_of_lt_of_le (Nat.add_lt_add_left k.isLt 6656) (by decide)⟩))
          (fun j => P (ix3 b l ⟨j.val, Nat.lt_of_lt_of_le j.isLt (by decide)⟩))
          (fun j => P (ix3 b l ⟨1024 + j.val, Nat.lt_of_lt_of_le (Nat.add_lt_add_left j.isLt 1024) (by decide)⟩))
          (fun j => P (ix3 b l ⟨2048 + j.val, Nat.lt_of_lt_of_le (Nat.add_lt_add_left j.isLt 2048) (by decide)⟩))
          (fun k j => wg (ix2 k j)) (fun k j => wa (ix2 k j)) (fun k j => wh (ix2 k j)) j := by
  have hg := gated_at yh P b l
  have hw := weight_at P b l
  unfold val_main_v24 val_main_v23 val_main_v22 val_main_v21 val_main_v16
  unfold val_main_v20 val_main_v19 val_main_v18 val_main_v17 val_main_v15 val_main_v14
  generalize val_main_v4 (F := Ideal) yh P = h at hg ⊢
  generalize val_main_v13 (F := Ideal) P = w at hw ⊢
  unfold mix
  pointwise [val_main_v5, val_main_v6]
  simp only [hg, hw]

/-- The residual stream after the layer, at an index. -/
theorem stream_at (b : Fin 2) (l : Fin 16384) (d : Fin 1024) :
    val_main_v29 (F := Ideal) yg ya yh P x gate wg wa wh wo (ix3 b l d)
      = stream (fun j => val_main_v24 (F := Ideal) yg ya yh P wg wa wh (ix3 b l j)) (fun d => x (ix3 b l d)) (fun d => gate (ix2 b d)) (fun j d => wo (ix2 j d)) d := by
  unfold val_main_v29 val_main_v28 val_main_v25
  generalize val_main_v24 (F := Ideal) yg ya yh P wg wa wh = y
  unfold stream
  pointwise [val_main_v27, val_main_v26]

/-- The result, at an index. -/
theorem unit_at (b : Fin 2) (l : Fin 16384) (d : Fin 1024) :
    val_main_v42 (F := Ideal) yg ya yh P x gate wg wa wh wo fn (ix3 b l d)
      = unit (fun d => val_main_v29 (F := Ideal) yg ya yh P x gate wg wa wh wo (ix3 b l d)) d * fn (ix1 d) := by
  unfold val_main_v42 val_main_v39 val_main_v38 val_main_v37 val_main_v36 val_main_v34 val_main_v32 val_main_v31 val_main_v30
  generalize val_main_v29 (F := Ideal) yg ya yh P x gate wg wa wh wo = y
  unfold unit
  pointwise [val_main_v41, val_main_v40, val_main_v35, val_main_cst_3, val_main_v33, val_main_cst_2, val_main_cst_1]

/-- THE REFERENCE at an index, by its row. -/
theorem ref_at (b : Fin 2) (l : Fin 16384) (d : Fin 1024) :
    val_main_v42 (F := Ideal) yg ya yh P x gate wg wa wh wo fn (ix3 b l d)
      = unit (stream (mix (fun k => yg (ix3 b l k)) (fun k => ya (ix3 b l k))
          (gated (fun k => yh (ix3 b l k)) fun k => P (ix3 b l ⟨6656 + k.val, Nat.lt_of_lt_of_le (Nat.add_lt_add_left k.isLt 6656) (by decide)⟩))
          (fun j => P (ix3 b l ⟨j.val, Nat.lt_of_lt_of_le j.isLt (by decide)⟩))
          (fun j => P (ix3 b l ⟨1024 + j.val, Nat.lt_of_lt_of_le (Nat.add_lt_add_left j.isLt 1024) (by decide)⟩))
          (fun j => P (ix3 b l ⟨2048 + j.val, Nat.lt_of_lt_of_le (Nat.add_lt_add_left j.isLt 2048) (by decide)⟩))
          (fun k j => wg (ix2 k j)) (fun k j => wa (ix2 k j)) (fun k j => wh (ix2 k j)))
        (fun d => x (ix3 b l d)) (fun d => gate (ix2 b d)) (fun j d => wo (ix2 j d))) d * fn (ix1 d) := by
  rw [unit_at]
  simp only [stream_at, mix_at]

end Cert.Reference2Ideal.Point

end
-- ==== Proof.MergeKer.lean ====
/-
  The merge call's body read at an index.
-/
module

public import proofs.«01_k».proof.Proof.MergeRef
public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Point

open Cert.Kernel2Ideal Cert.Kernel2Ideal.Gen Cert.Merge
open Idealize.ShloMosaic Idealize.ShloMosaic.TcCoe

/-- The third branch gated, at an index. -/
theorem gated_at (yh : Vec Ideal S1x1024x512 .f32) (yz : Vec Ideal S1x1024x512 .bf16) (r : Fin 1024) (k : Fin 512) :
    k0_pay2 yh yz (ix2 r k) = gated (fun k => yh (ix3 0 r k)) (fun k => yz (ix3 0 r k)) k := by
  unfold gated logi
  pointwise [k0_pay2]
  simp only [zero_sub]

/-- The first branch's summand, at an index. -/
theorem first_at (mg : Vec Ideal S1x1024x1024 .bf16) (yg : Vec Ideal S1x1024x512 .bf16) (wg : Vec Ideal S512x1024 .bf16) (r : Fin 1024) (j : Fin 1024) :
    k0_pay3 mg yg wg (ix2 r j) = logi (mg (ix3 0 r j)) * ∑ k : Fin 512, yg (ix3 0 r k) * wg (ix2 k j) := by
  unfold logi
  pointwise [k0_pay3]
  simp only [zero_sub]

/-- The second weight, at an index. -/
theorem second_at (ma : Vec Ideal S1x1024x1024 .bf16) (r : Fin 1024) (j : Fin 1024) : k0_pay4 ma (ix2 r j) = ma (ix3 0 r j) := by
  pointwise [k0_pay4]

/-- The residual stream's block, at an index. -/
theorem res_at (x : Vec Ideal S1x1024x1024 .f32) (r : Fin 1024) (j : Fin 1024) : k0_pay6 x (ix2 r j) = x (ix3 0 r j) := by
  pointwise [k0_pay6]

/-- The projected sum of the branches, at an index. -/
theorem proj_at (h : FVec Ideal S1024x512 .bf16) (u a : FVec Ideal S1024x1024 .f32) (ya : Vec Ideal S1x1024x512 .bf16) (wa : Vec Ideal S512x1024 .bf16)
    (mh : Vec Ideal S1x1024x1024 .bf16) (wh : Vec Ideal S512x1024 .bf16) (wo : Vec Ideal S1024x1024 .bf16) (r d : Fin 1024) :
    k0_pay5 h u a ya wa mh wh wo (ix2 r d)
      = ∑ j : Fin 1024, (u (ix2 r j) + logi (a (ix2 r j)) * (∑ k : Fin 512, ya (ix3 0 r k) * wa (ix2 k j)) + logi (mh (ix3 0 r j)) * (∑ k : Fin 512, h (ix2 r k) * wh (ix2 k j))) * wo (ix2 j d) := by
  unfold logi
  pointwise [k0_pay5]
  simp only [zero_sub]

/-- The output block, at an index. -/
theorem out_at (p x : FVec Ideal S1024x1024 .f32) (gate : Vec Ideal S1x1x1024 .f32) (fn : Vec Ideal S1x1024 .f32) (r d : Fin 1024) :
    k0_pay1 p x gate fn (ix3 0 r d)
      = unit (fun d => x (ix2 r d) + gate (ix3 0 0 d) * p (ix2 r d)) d * fn (ix2 0 d) := by
  unfold unit
  pointwise [k0_pay1]

/-- THE BODY at an index, by its rows. -/
theorem body_at (yg ya : Vec Ideal S1x1024x512 .bf16) (yh : Vec Ideal S1x1024x512 .f32) (yz : Vec Ideal S1x1024x512 .bf16) (mg ma mh : Vec Ideal S1x1024x1024 .bf16)
    (x : Vec Ideal S1x1024x1024 .f32) (gate : Vec Ideal S1x1x1024 .f32) (wg wa wh : Vec Ideal S512x1024 .bf16) (wo : Vec Ideal S1024x1024 .bf16) (fn : Vec Ideal S1x1024 .f32) (r d : Fin 1024) :
    k0_pay1 (k0_pay5 (k0_pay2 yh yz) (k0_pay3 mg yg wg) (k0_pay4 ma) ya wa mh wh wo) (k0_pay6 x) gate fn (ix3 0 r d)
      = unit (stream (mix (fun k => yg (ix3 0 r k)) (fun k => ya (ix3 0 r k)) (gated (fun k => yh (ix3 0 r k)) fun k => yz (ix3 0 r k))
          (fun j => mg (ix3 0 r j)) (fun j => ma (ix3 0 r j)) (fun j => mh (ix3 0 r j))
          (fun k j => wg (ix2 k j)) (fun k j => wa (ix2 k j)) (fun k j => wh (ix2 k j)))
        (fun d => x (ix3 0 r d)) (fun d => gate (ix3 0 0 d)) (fun j d => wo (ix2 j d))) d * fn (ix2 0 d) := by
  rw [out_at]
  simp only [proj_at, res_at, first_at, second_at, gated_at]
  rfl

variable (m : (ℓ : Loc nD τ sig) → Buf (Elt Ideal) ℓ)

open Idealize.SL.Sem
open Idealize.ShloMosaic.Pipeline (Dat)

/-- The windows' block indices at every point. -/
theorem idx : ∀ t : Fin cfg0.N, (grid0.coords t 0).val < 2 ∧ (grid0.coords t 1).val < 16
    ∧ win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 13]
    ∧ win0_4.index t = ![(grid0.coords t 0).val, (grid0.coords t 1).val, 0]
    ∧ win0_5.index t = ![(grid0.coords t 0).val, (grid0.coords t 1).val, 1]
    ∧ win0_6.index t = ![(grid0.coords t 0).val, (grid0.coords t 1).val, 2]
    ∧ win0_7.index t = ![(grid0.coords t 0).val, (grid0.coords t 1).val, 0]
    ∧ win0_8.index t = ![(grid0.coords t 0).val, 0, 0]
    ∧ win0_9.index t = ![0, 0] ∧ win0_10.index t = ![0, 0] ∧ win0_11.index t = ![0, 0] ∧ win0_12.index t = ![0, 0] ∧ win0_13.index t = ![0, 0]
    ∧ win0_14.index t = ![(grid0.coords t 0).val, (grid0.coords t 1).val, 0] :=
  (by decide +kernel : ∀ t : Fin grid0.N, _)

/-- The batch entry of a point. -/
abbrev pb (t : Fin cfg0.N) : Fin 2 := ⟨(grid0.coords t 0).val, (idx t).1⟩
/-- The row block of a point. -/
abbrev pt (t : Fin cfg0.N) : Fin 16 := ⟨(grid0.coords t 1).val, (idx t).2.1⟩
/-- A row of a point's block, in the array. -/
abbrev row (t : Fin cfg0.N) (r : Fin 1024) : Fin 16384 := ⟨1024 * (pt t).val + r.val, by omega⟩

section Blocks

variable (c : Dev nD) (t : Fin cfg0.N) (r : Fin 1024)

/-- A block of the first branch. -/
theorem blk0 (k : Fin 512) : (iblk m c 0 t : Vec Ideal S1x1024x512 .bf16) (ix3 0 r k) = (m ((c : Thread nD τ).loc main_arg0) : FVec Ideal S2x16384x512 .bf16) (ix3 (pb t) (row t r) k) := by
  blk_ext [iblk, V, idx t]
/-- A block of the second branch. -/
theorem blk1 (k : Fin 512) : (iblk m c 1 t : Vec Ideal S1x1024x512 .bf16) (ix3 0 r k) = (m ((c : Thread nD τ).loc main_arg1) : FVec Ideal S2x16384x512 .bf16) (ix3 (pb t) (row t r) k) := by
  blk_ext [iblk, V, idx t]
/-- A block of the third branch. -/
theorem blk2 (k : Fin 512) : (iblk m c 2 t : Vec Ideal S1x1024x512 .f32) (ix3 0 r k) = (m ((c : Thread nD τ).loc main_arg2) : FVec Ideal S2x16384x512 .f32) (ix3 (pb t) (row t r) k) := by
  blk_ext [iblk, V, idx t]
/-- A block of the third branch's gate. -/
theorem blk3 (k : Fin 512) : (iblk m c 3 t : Vec Ideal S1x1024x512 .bf16) (ix3 0 r k) = (m ((c : Thread nD τ).loc main_arg3) : FVec Ideal S2x16384x8192 .bf16) (ix3 (pb t) (row t r) ⟨6656 + k.val, by omega⟩) := by
  blk_ext [iblk, V, idx t]
/-- A block of the first weights. -/
theorem blk4 (j : Fin 1024) : (iblk m c 4 t : Vec Ideal S1x1024x1024 .bf16) (ix3 0 r j) = (m ((c : Thread nD τ).loc main_arg3) : FVec Ideal S2x16384x8192 .bf16) (ix3 (pb t) (row t r) ⟨j.val, by omega⟩) := by
  blk_ext [iblk, V, idx t]
/-- A block of the second weights. -/
theorem blk5 (j : Fin 1024) : (iblk m c 5 t : Vec Ideal S1x1024x1024 .bf16) (ix3 0 r j) = (m ((c : Thread nD τ).loc main_arg3) : FVec Ideal S2x16384x8192 .bf16) (ix3 (pb t) (row t r) ⟨1024 + j.val, by omega⟩) := by
  blk_ext [iblk, V, idx t]
/-- A block of the third weights. -/
theorem blk6 (j : Fin 1024) : (iblk m c 6 t : Vec Ideal S1x1024x1024 .bf16) (ix3 0 r j) = (m ((c : Thread nD τ).loc main_arg3) : FVec Ideal S2x16384x8192 .bf16) (ix3 (pb t) (row t r) ⟨2048 + j.val, by omega⟩) := by
  blk_ext [iblk, V, idx t]
/-- A block of the residual stream. -/
theorem blk7 (d : Fin 1024) : (iblk m c 7 t : Vec Ideal S1x1024x1024 .f32) (ix3 0 r d) = (m ((c : Thread nD τ).loc main_arg4) : FVec Ideal S2x16384x1024 .f32) (ix3 (pb t) (row t r) d) := by
  blk_ext [iblk, V, idx t]

/-- The layer's gate, as the region finds it. -/
theorem V_gate : V m c main_v5 = broadcastInDim S2x1x1024 ![0, 2] bcast_S2x1024_S2x1x1024_0_2 (m ((c : Thread nD τ).loc main_arg5)) := by
  entry_read
  rfl

/-- The block of the layer's gate. -/
theorem blk8 (d : Fin 1024) : (iblk m c 8 t : Vec Ideal S1x1x1024 .f32) (ix3 0 0 d) = (m ((c : Thread nD τ).loc main_arg5) : FVec Ideal S2x1024 .f32) (ix2 (pb t) d) := by
  have e : ∀ (g : FVec Ideal S2x1024 .f32) (b : Fin 2), broadcastInDim S2x1x1024 ![0, 2] bcast_S2x1024_S2x1x1024_0_2 g (ix3 b 0 d) = g (ix2 b d) := by
    intro g b
    pointwise
  refine Eq.trans ?_ (e _ _)
  rw [← V_gate]
  blk_ext [iblk, idx t]

/-- The first branch's projection, as the region finds it. -/
theorem V_w9 : V m c main_v0 = (m ((c : Thread nD τ).loc main_arg6) : FVec Ideal S512x1024 .f32) := by
  entry_read
  rfl
/-- The block of the first branch's projection. -/
theorem blk9 (k : Fin 512) (j : Fin 1024) : (iblk m c 9 t : Vec Ideal S512x1024 .bf16) (ix2 k j) = (m ((c : Thread nD τ).loc main_arg6) : FVec Ideal S512x1024 .f32) (ix2 k j) := by
  refine Eq.trans ?_ (congrFun (V_w9 m c) _)
  blk_ext [iblk, idx t]

/-- The second branch's projection, as the region finds it. -/
theorem V_w10 : V m c main_v1 = (m ((c : Thread nD τ).loc main_arg7) : FVec Ideal S512x1024 .f32) := by
  entry_read
  rfl
/-- The block of the second branch's projection. -/
theorem blk10 (k : Fin 512) (j : Fin 1024) : (iblk m c 10 t : Vec Ideal S512x1024 .bf16) (ix2 k j) = (m ((c : Thread nD τ).loc main_arg7) : FVec Ideal S512x1024 .f32) (ix2 k j) := by
  refine Eq.trans ?_ (congrFun (V_w10 m c) _)
  blk_ext [iblk, idx t]

/-- The third branch's projection, as the region finds it. -/
theorem V_w11 : V m c main_v2 = (m ((c : Thread nD τ).loc main_arg8) : FVec Ideal S512x1024 .f32) := by
  entry_read
  rfl
/-- The block of the third branch's projection. -/
theorem blk11 (k : Fin 512) (j : Fin 1024) : (iblk m c 11 t : Vec Ideal S512x1024 .bf16) (ix2 k j) = (m ((c : Thread nD τ).loc main_arg8) : FVec Ideal S512x1024 .f32) (ix2 k j) := by
  refine Eq.trans ?_ (congrFun (V_w11 m c) _)
  blk_ext [iblk, idx t]

/-- The output's projection, as the region finds it. -/
theorem V_w12 : V m c main_v3 = (m ((c : Thread nD τ).loc main_arg9) : FVec Ideal S1024x1024 .f32) := by
  entry_read
  rfl
/-- The block of the output's projection. -/
theorem blk12 (k : Fin 1024) (j : Fin 1024) : (iblk m c 12 t : Vec Ideal S1024x1024 .bf16) (ix2 k j) = (m ((c : Thread nD τ).loc main_arg9) : FVec Ideal S1024x1024 .f32) (ix2 k j) := by
  refine Eq.trans ?_ (congrFun (V_w12 m c) _)
  blk_ext [iblk, idx t]

/-- The final norm's weights, as the region finds them. -/
theorem V_fn : V m c main_v4 = broadcastInDim S1x1024 ![1] bcast_S1024_S1x1024_1 (m ((c : Thread nD τ).loc main_arg10)) := by
  entry_read
  rfl
/-- The block of the final norm's weights. -/
theorem blk13 (d : Fin 1024) : (iblk m c 13 t : Vec Ideal S1x1024 .f32) (ix2 0 d) = (m ((c : Thread nD τ).loc main_arg10) : FVec Ideal S1024 .f32) (ix1 d) := by
  have e : broadcastInDim S1x1024 ![1] bcast_S1024_S1x1024_1 (m ((c : Thread nD τ).loc main_arg10)) (ix2 0 d) = (m ((c : Thread nD τ).loc main_arg10) : FVec Ideal S1024 .f32) (ix1 d) := by
    generalize (m ((c : Thread nD τ).loc main_arg10) : FVec Ideal S1024 .f32) = g
    pointwise
  rw [← e, ← V_fn]
  blk_ext [iblk, idx t]

end Blocks

/-- The reference's result over the kernel's arguments. -/
abbrev refV (c : Dev nD) : FVec Ideal S2x16384x1024 .f32 :=
  Cert.Reference2Ideal.Read.val_main_v42 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- THE POINT: an entry of a point's block is the reference's entry where the block lies. -/
theorem point (c : Dev nD) (t : Fin cfg0.N) (r d : Fin 1024) :
    k0_pay1 (k0_pay5 (k0_pay2 (iblk m c 2 t) (iblk m c 3 t)) (k0_pay3 (iblk m c 4 t) (iblk m c 0 t) (iblk m c 9 t)) (k0_pay4 (iblk m c 5 t)) (iblk m c 1 t) (iblk m c 10 t) (iblk m c 6 t) (iblk m c 11 t) (iblk m c 12 t)) (k0_pay6 (iblk m c 7 t)) (iblk m c 8 t) (iblk m c 13 t) (ix3 0 r d)
      = refV m c (ix3 (pb t) (row t r) d) := by
  rw [refV, Cert.Reference2Ideal.Point.ref_at]
  refine (body_at _ _ _ _ _ _ _ _ _ _ _ _ _ _ r d).trans ?_
  simp only [blk0, blk1, blk2, blk3, blk4, blk5, blk6, blk7, blk8, blk9, blk10, blk11, blk12, blk13]

/-- The result array after the run. -/
theorem final (c : Dev nD) : (dats m 0 c).arrAt 14 (cfgs 0).N = refV m c := by
  refine (dats m 0 c).arrAt_eq_of_covers 14 _ (by decide +kernel) fun t _ y => ?_
  blk_simp
  rw [after0_14]
  frame_out
  have hy : (y : S1x1024x1024.Idx) = ix3 0 (y 1) (y 2) := by
    funext a
    fin_cases a
    · exact Fin.ext (by show (y 0).val = 0; have : (y 0).val < 1 := (y 0).isLt; omega)
    · rfl
    · rfl
  refine (congrArg _ hy).trans ((point m c t (y 1) (y 2)).trans (congrArg (refV m c) ?_))
  funext a
  refine Fin.ext ?_
  fin_cases a
  · have h0 : (y 0).val < 1 := (y 0).isLt
    blk_simp [idx t]
    rfl
  · blk_simp [idx t]
    show 1024 * (grid0.coords t 1).val + (y 1).val = (grid0.coords t 1).val * 1024 + (y 1).val
    omega
  · blk_simp [idx t]
    rfl

end Cert.Kernel2Ideal.Point

end
-- ==== Proof.MergeClaim.lean ====
/-
  The claims about the merge call: runs of the kernel and of its reference, and equal results at the reals.
-/
module

public import proofs.«01_k».proof.Defs
public import proofs.«01_k».proof.Proof.MergeKer
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import Idealize.ShloMosaic.Lib.Quiescent
public import Idealize.ShloMosaic.Lib.Claim

@[expose] public section

set_option maxRecDepth 16384

noncomputable section

namespace Cert.Merge.Claims

open Idealize.ShloMosaic Idealize.SL.Sem

/-- The merge kernel at the machine's numbers. -/
theorem frame_kernel : Cert.quiescent_Kernel2 := fun m ρ _ => Cert.Kernel2.Gen.frame (F := Bits) m ρ

/-- The merge kernel at the reals. -/
theorem frame_kernelIdeal : Cert.quiescent_Kernel2Ideal := fun m ρ _ => Cert.Kernel2Ideal.Gen.frame (F := Ideal) m ρ

/-- The merge's reference at the reals: host operations, on a machine that declares no counter. -/
theorem frame_reference : Cert.quiescent_Reference2Ideal := fun m ρ _ =>
  (θ_run Cert.Reference2Ideal.defs _ _).mono (fun r h => ⟨fun c => (h c).2, sem_eq_zero_of_no_sems rfl _⟩)
    (Cert.Reference2Ideal.Value.run (F := Ideal) m ρ)

/-- THE MERGE: kernel and reference end with equal results. -/
theorem merge : Cert.algebraic_Kernel2Ideal_Reference2Ideal := by
  pair_intro
  · run_from Cert.Kernel2Ideal.Gen.run_main m g
  · refine (θ_run Cert.Reference2Ideal.defs _ _).mono (fun r hr c => ⟨(hr c).1.trans ?_, (hr c).2⟩)
      (Cert.Reference2Ideal.Value.run (F := Ideal) m' g')
    rw [Cert.Reference2Ideal.Read.val_main_v42_eq, Cert.Kernel2Ideal.Point.final m c]
    obtain ⟨h0, h1, h2, h3, h4, h5, h6, h7, h8, h9, h10⟩ := hagree c
    rw [h0, h1, h2, h3, h4, h5, h6, h7, h8, h9, h10]

end Cert.Merge.Claims

end
-- ==== Proof.ProjSpec.lean ====
/-
  The projection's columns in the order in which the call packs them.
-/
module

public import proofs.«01_k».proof.Proof.MergeSpec

@[expose] public section

noncomputable section

namespace Cert.Proj

open Idealize.ShloMosaic

/-- A row normalised, scaled and shifted. -/
def hidRow (x sc sh : Fin 1024 → EReal) (k : Fin 1024) : EReal := Cert.Merge.unit x k * (1 + sc k) + sh k

/-- The columns of the weight (or of a product with it) in packed order; past them zeros. -/
def packed (f : Fin 7968 → EReal) (c : ℕ) : EReal :=
  if h : c < 3072 then f ⟨4896 + c, by omega⟩
  else if h : c < 4608 then f ⟨2848 + (c - 3072), by omega⟩
  else if h : c < 5120 then f ⟨512 + (c - 4608), by omega⟩
  else if h : c < 5632 then f ⟨1024 + (c - 5120), by omega⟩
  else if h : c < 6144 then f ⟨1568 + (c - 5632), by omega⟩
  else if h : c < 6656 then f ⟨2336 + (c - 6144), by omega⟩
  else if h : c < 7168 then f ⟨4384 + (c - 6656), by omega⟩
  else if h : c < 7424 then f ⟨c - 7168, by omega⟩
  else if h : c < 7680 then f ⟨256 + (c - 7424), by omega⟩
  else if h : c < 7808 then f ⟨2080 + (c - 7680), by omega⟩
  else if h : c < 7936 then f ⟨2208 + (c - 7808), by omega⟩
  else if h : c < 7952 then f ⟨1536 + (c - 7936), by omega⟩
  else if h : c < 7968 then f ⟨1552 + (c - 7952), by omega⟩
  else 0

/-- Past the columns there is zero. -/
theorem packed_zero (f : Fin 7968 → EReal) (c : ℕ) (h : 7968 ≤ c) : packed f c = 0 := by
  unfold packed
  rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_neg (by omega)]

/-- The group of columns below 3072. -/
theorem packed_0 (f : Fin 7968 → EReal) (c : ℕ) (h1 : c < 3072) : packed f c = f ⟨4896 + c, by omega⟩ := by
  unfold packed
  rw [dif_pos h1]

/-- The group of columns below 4608. -/
theorem packed_1 (f : Fin 7968 → EReal) (c : ℕ) (h0 : 3072 ≤ c) (h1 : c < 4608) : packed f c = f ⟨2848 + (c - 3072), by omega⟩ := by
  unfold packed
  rw [dif_neg (by omega), dif_pos h1]

/-- The group of columns below 5120. -/
theorem packed_2 (f : Fin 7968 → EReal) (c : ℕ) (h0 : 4608 ≤ c) (h1 : c < 5120) : packed f c = f ⟨512 + (c - 4608), by omega⟩ := by
  unfold packed
  rw [dif_neg (by omega), dif_neg (by omega), dif_pos h1]

/-- The group of columns below 5632. -/
theorem packed_3 (f : Fin 7968 → EReal) (c : ℕ) (h0 : 5120 ≤ c) (h1 : c < 5632) : packed f c = f ⟨1024 + (c - 5120), by omega⟩ := by
  unfold packed
  rw [dif_neg (by omega), dif_neg (by omega), dif_neg (by omega), dif_pos h1]

/-- The group of columns below 6144. -/
theorem packed_4 (f : Fin 7968 → EReal) (c : ℕ) (h0 : 5632 ≤ c) (h1 : c < 6144) : packed f c = f ⟨1568 + (c - 5632), by omega⟩ := by
  unfold packed
  rw [dif_neg (by omega), dif_neg (by omega), dif_neg (by omega), dif_neg (by omega), dif_pos h1]

/-- The group of columns below 6656. -/
theorem packed_5 (f : Fin 7968 → EReal) (c : ℕ) (h0 : 6144 ≤ c) (h1 : c < 6656) : packed f c = f ⟨2336 + (c - 6144), by omega⟩ := by
  unfold packed
  rw [dif_neg (by omega), dif_neg (by omega), dif_neg (by omega), dif_neg (by omega), dif_neg (by omega), dif_pos h1]

/-- The group of columns below 7168. -/
theorem packed_6 (f : Fin 7968 → EReal) (c : ℕ) (h0 : 6656 ≤ c) (h1 : c < 7168) : packed f c = f ⟨4384 + (c - 6656), by omega⟩ := by
  unfold packed
  rw [dif_neg (by omega), dif_neg (by omega), dif_neg (by omega), dif_neg (by omega), dif_neg (by omega), dif_neg (by omega), dif_pos h1]

/-- The group of columns below 7424. -/
theorem packed_7 (f : Fin 7968 → EReal) (c : ℕ) (h0 : 7168 ≤ c) (h1 : c < 7424) : packed f c = f ⟨c - 7168, by omega⟩ := by
  unfold packed
  rw [dif_neg (by omega), dif_neg (by omega), dif_neg (by omega), dif_neg (by omega), dif_neg (by omega), dif_neg (by omega), dif_neg (by omega), dif_pos h1]

/-- The group of columns below 7680. -/
theorem packed_8 (f : Fin 7968 → EReal) (c : ℕ) (h0 : 7424 ≤ c) (h1 : c < 7680) : packed f c = f ⟨256 + (c - 7424), by omega⟩ := by
  unfold packed
  rw [dif_neg (by omega), dif_neg (by omega), dif_neg (by omega), dif_neg (by omega), dif_neg (by omega), dif_neg (by omega), dif_neg (by omega), dif_neg (by omega), dif_pos h1]

/-- The group of columns below 7808. -/
theorem packed_9 (f : Fin 7968 → EReal) (c : ℕ) (h0 : 7680 ≤ c) (h1 : c < 7808) : packed f c = f ⟨2080 + (c - 7680), by omega⟩ := by
  unfold packed
  rw [dif_neg (by omega), dif_neg (by omega), dif_neg (by omega), dif_neg (by omega), dif_neg (by omega), dif_neg (by omega), dif_neg (by omega), dif_neg (by omega), dif_neg (by omega), dif_pos h1]

/-- The group of columns below 7936. -/
theorem packed_10 (f : Fin 7968 → EReal) (c : ℕ) (h0 : 7808 ≤ c) (h1 : c < 7936) : packed f c = f ⟨2208 + (c - 7808), by omega⟩ := by
  unfold packed
  rw [dif_neg (by omega), dif_neg (by omega), dif_neg (by omega), dif_neg (by omega), dif_neg (by omega), dif_neg (by omega), dif_neg (by omega), dif_neg (by omega), dif_neg (by omega), dif_neg (by omega), dif_pos h1]

/-- The group of columns below 7952. -/
theorem packed_11 (f : Fin 7968 → EReal) (c : ℕ) (h0 : 7936 ≤ c) (h1 : c < 7952) : packed f c = f ⟨1536 + (c - 7936), by omega⟩ := by
  unfold packed
  rw [dif_neg (by omega), dif_neg (by omega), dif_neg (by omega), dif_neg (by omega), dif_neg (by omega), dif_neg (by omega), dif_neg (by omega), dif_neg (by omega), dif_neg (by omega), dif_neg (by omega), dif_neg (by omega), dif_pos h1]

/-- The group of columns below 7968. -/
theorem packed_12 (f : Fin 7968 → EReal) (c : ℕ) (h0 : 7952 ≤ c) (h1 : c < 7968) : packed f c = f ⟨1552 + (c - 7952), by omega⟩ := by
  unfold packed
  rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_pos h1]

/-- A packed column is one of the columns, or zero. -/
theorem packed_cases (c : ℕ) : (∃ n, ∀ f, packed f c = f n) ∨ (∀ f, packed f c = 0) := by
  by_cases h0 : c < 3072
  · exact .inl ⟨_, fun f => by unfold packed; rw [dif_pos h0]⟩
  by_cases h1 : c < 4608
  · exact .inl ⟨_, fun f => by unfold packed; rw [dif_neg h0, dif_pos h1]⟩
  by_cases h2 : c < 5120
  · exact .inl ⟨_, fun f => by unfold packed; rw [dif_neg h0, dif_neg h1, dif_pos h2]⟩
  by_cases h3 : c < 5632
  · exact .inl ⟨_, fun f => by unfold packed; rw [dif_neg h0, dif_neg h1, dif_neg h2, dif_pos h3]⟩
  by_cases h4 : c < 6144
  · exact .inl ⟨_, fun f => by unfold packed; rw [dif_neg h0, dif_neg h1, dif_neg h2, dif_neg h3, dif_pos h4]⟩
  by_cases h5 : c < 6656
  · exact .inl ⟨_, fun f => by unfold packed; rw [dif_neg h0, dif_neg h1, dif_neg h2, dif_neg h3, dif_neg h4, dif_pos h5]⟩
  by_cases h6 : c < 7168
  · exact .inl ⟨_, fun f => by unfold packed; rw [dif_neg h0, dif_neg h1, dif_neg h2, dif_neg h3, dif_neg h4, dif_neg h5, dif_pos h6]⟩
  by_cases h7 : c < 7424
  · exact .inl ⟨_, fun f => by unfold packed; rw [dif_neg h0, dif_neg h1, dif_neg h2, dif_neg h3, dif_neg h4, dif_neg h5, dif_neg h6, dif_pos h7]⟩
  by_cases h8 : c < 7680
  · exact .inl ⟨_, fun f => by unfold packed; rw [dif_neg h0, dif_neg h1, dif_neg h2, dif_neg h3, dif_neg h4, dif_neg h5, dif_neg h6, dif_neg h7, dif_pos h8]⟩
  by_cases h9 : c < 7808
  · exact .inl ⟨_, fun f => by unfold packed; rw [dif_neg h0, dif_neg h1, dif_neg h2, dif_neg h3, dif_neg h4, dif_neg h5, dif_neg h6, dif_neg h7, dif_neg h8, dif_pos h9]⟩
  by_cases h10 : c < 7936
  · exact .inl ⟨_, fun f => by unfold packed; rw [dif_neg h0, dif_neg h1, dif_neg h2, dif_neg h3, dif_neg h4, dif_neg h5, dif_neg h6, dif_neg h7, dif_neg h8, dif_neg h9, dif_pos h10]⟩
  by_cases h11 : c < 7952
  · exact .inl ⟨_, fun f => by unfold packed; rw [dif_neg h0, dif_neg h1, dif_neg h2, dif_neg h3, dif_neg h4, dif_neg h5, dif_neg h6, dif_neg h7, dif_neg h8, dif_neg h9, dif_neg h10, dif_pos h11]⟩
  by_cases h12 : c < 7968
  · exact .inl ⟨_, fun f => by unfold packed; rw [dif_neg h0, dif_neg h1, dif_neg h2, dif_neg h3, dif_neg h4, dif_neg h5, dif_neg h6, dif_neg h7, dif_neg h8, dif_neg h9, dif_neg h10, dif_neg h11, dif_pos h12]⟩
  exact .inr fun f => by unfold packed; rw [dif_neg h0, dif_neg h1, dif_neg h2, dif_neg h3, dif_neg h4, dif_neg h5, dif_neg h6, dif_neg h7, dif_neg h8, dif_neg h9, dif_neg h10, dif_neg h11, dif_neg h12]

/-- A product with the packed weight is the packed product. -/
theorem sum_packed (h : Fin 1024 → EReal) (w : Fin 1024 → Fin 7968 → EReal) (c : ℕ) :
    (∑ k, h k * packed (w k) c) = packed (fun n => ∑ k, h k * w k n) c := by
  obtain ⟨n, hn⟩ | hz := packed_cases c
  · rw [hn]
    exact Finset.sum_congr rfl fun k _ => by rw [hn]
  · rw [hz]
    exact Finset.sum_eq_zero fun k _ => by rw [hz, mul_zero]

/-- The call's result at a column: the packed product, and past the last group the part of the low-rank gates' inputs
    that their cast drops. -/
def columns (f : Fin 7968 → EReal) (c : ℕ) : EReal :=
  if c < 8064 then packed f c else packed f (c - 128) - packed f (c - 128)

end Cert.Proj

end
-- ==== Proof.ProjCat.lean ====
/-
  One piece of a concatenation along the last axis, read at an index.
-/
module

public import Idealize.ShloMosaic.Lib.Pointwise
public import Idealize.ShloMosaic.Lib.Pipeline.ValueKit

@[expose] public section

set_option maxRecDepth 16384

noncomputable section

namespace Cert.Proj

open Idealize.ShloMosaic

/-- Three axes: the piece whose columns hold the index's column. -/
theorem piece3 {α : Type} {n : ℕ} (xs : List ((s : Shape) × (s.Idx → α)))
    (h : Shape.Concatenates (xs.map (·.1)) ⟨3, ![2, 16384, n]⟩ 2) (b : Fin 2) (l : Fin 16384) (c : Fin n) (k pre p : ℕ)
    (hk : k < xs.length) (x₁ : (⟨3, ![2, 16384, p]⟩ : Shape).Idx → α) (hx : xs[k] = ⟨_, x₁⟩)
    (hpre : (((xs.take k).map (·.1)).map fun s => if h : s.rank = (⟨3, ![2, 16384, n]⟩ : Shape).rank then s.size ((2 : Fin 3).cast h.symm) else 0).sum = pre)
    (h0 : pre ≤ c.val) (h1 : c.val - pre < p) :
    concatenate ⟨3, ![2, 16384, n]⟩ 2 xs h (ix3 b l c) = x₁ (ix3 b l ⟨c.val - pre, h1⟩) := by
  refine concatenate_apply_piece (t := ⟨3, ![2, 16384, n]⟩) 2 xs h (ix3 b l c) k hk _ x₁ hx rfl pre hpre (ix3 b l ⟨c.val - pre, h1⟩) ?_ ?_
  · intro a ha
    fin_cases a
    · rfl
    · rfl
    · exact absurd rfl ha
  · show pre + (c.val - pre) = c.val
    omega

/-- Two axes: the piece whose columns hold the index's column. -/
theorem piece2 {α : Type} {n : ℕ} (xs : List ((s : Shape) × (s.Idx → α)))
    (h : Shape.Concatenates (xs.map (·.1)) ⟨2, ![1024, n]⟩ 1) (r : Fin 1024) (c : Fin n) (k pre p : ℕ)
    (hk : k < xs.length) (x₁ : (⟨2, ![1024, p]⟩ : Shape).Idx → α) (hx : xs[k] = ⟨_, x₁⟩)
    (hpre : (((xs.take k).map (·.1)).map fun s => if h : s.rank = (⟨2, ![1024, n]⟩ : Shape).rank then s.size ((1 : Fin 2).cast h.symm) else 0).sum = pre)
    (h0 : pre ≤ c.val) (h1 : c.val - pre < p) :
    concatenate ⟨2, ![1024, n]⟩ 1 xs h (ix2 r c) = x₁ (ix2 r ⟨c.val - pre, h1⟩) := by
  refine concatenate_apply_piece (t := ⟨2, ![1024, n]⟩) 1 xs h (ix2 r c) k hk _ x₁ hx rfl pre hpre (ix2 r ⟨c.val - pre, h1⟩) ?_ ?_
  · intro a ha
    fin_cases a
    · rfl
    · exact absurd rfl ha
  · show pre + (c.val - pre) = c.val
    omega

end Cert.Proj

end
-- ==== Proof.ProjRef.lean ====
/-
  The projection's reference read at an index.
-/
module

public import proofs.«01_k».proof.Proof.ProjSpec
public import proofs.«01_k».proof.Proof.ProjCat
public import proofs.«01_k».proof.Proof.Gen.Reference3Ideal.Read
public import Idealize.ShloMosaic.Lib.Pointwise

@[expose] public section

set_option maxRecDepth 16384

noncomputable section

namespace Cert.Reference3Ideal.Point

open Cert.Reference3Ideal Cert.Reference3Ideal.Gen Cert.Reference3Ideal.Read Cert.Proj
open Idealize.ShloMosaic Idealize.ShloMosaic.TcCoe

variable (x : FVec Ideal S2x16384x1024 .f32) (sc sh : FVec Ideal S2x1024 .f32) (w : FVec Ideal S1024x7968 .f32)

/-- The normalised row, at an index. -/
theorem hidden_at (b : Fin 2) (l : Fin 16384) (k : Fin 1024) :
    val_main_v17 (F := Ideal) x sc sh (ix3 b l k) = hidRow (fun k => x (ix3 b l k)) (fun k => sc (ix2 b k)) (fun k => sh (ix2 b k)) k := by
  unfold hidRow Cert.Merge.unit
  pointwise [val_main_v17, val_main_v16, val_main_v15, val_main_v14, val_main_v13, val_main_v12, val_main_v11, val_main_cst_2, val_main_v10, val_main_v9, val_main_v8, val_main_v7, val_main_v6, val_main_v5, val_main_cst_1, val_main_v4, val_main_v3, val_main_cst_0, val_main_v2, val_main_v1, val_main_cst, val_main_v0]

/-- The product, at an index. -/
theorem prod_at (b : Fin 2) (l : Fin 16384) (n : Fin 7968) :
    val_main_v18 (F := Ideal) x sc sh w (ix3 b l n)
      = ∑ k : Fin 1024, hidRow (fun k => x (ix3 b l k)) (fun k => sc (ix2 b k)) (fun k => sh (ix2 b k)) k * w (ix2 k n) := by
  have hh := hidden_at x sc sh b l
  unfold val_main_v18
  generalize val_main_v17 (F := Ideal) x sc sh = h at hh ⊢
  pointwise
  simp only [hh]

/-- The low-rank gates' inputs, at an index. -/
theorem gate_at (b : Fin 2) (l : Fin 16384) (c : Fin 128) :
    val_main_v33 (F := Ideal) x sc sh w (ix3 b l c) = packed (fun n => val_main_v18 (F := Ideal) x sc sh w (ix3 b l n)) (7936 + c.val) := by
  have hc := c.isLt
  unfold val_main_v33 val_main_v24 val_main_v23
  generalize val_main_v18 (F := Ideal) x sc sh w = p
  by_cases h0 : c.val < 16
  · rw [packed_11 _ _ (by omega) (by omega)]
    refine (piece3 _ _ b l c 0 0 16 (by simp) _ rfl rfl (by omega) (by omega)).trans ?_
    pointwise
    blk_ext
  by_cases h1 : c.val < 32
  · rw [packed_12 _ _ (by omega) (by omega)]
    refine (piece3 _ _ b l c 1 16 16 (by simp) _ rfl rfl (by omega) (by omega)).trans ?_
    pointwise
    blk_ext
  · rw [packed_zero _ _ (by omega)]
    refine (piece3 _ _ b l c 2 32 96 (by simp) _ rfl rfl (by omega) (by omega)).trans ?_
    pointwise [val_main_v32, val_main_cst_3]

set_option maxHeartbeats 2000000 in
/-- The result, at an index. -/
theorem cols_at (b : Fin 2) (l : Fin 16384) (c : Fin 8192) :
    val_main_v38 (F := Ideal) x sc sh w (ix3 b l c) = columns (fun n => val_main_v18 (F := Ideal) x sc sh w (ix3 b l n)) c.val := by
  have hc := c.isLt
  have hg := gate_at x sc sh w b l
  refine (show val_main_v38 (F := Ideal) x sc sh w (ix3 b l c) = val_main_v37 (F := Ideal) x sc sh w (ix3 b l c) from rfl).trans ?_
  unfold val_main_v37 val_main_v36 val_main_v35 val_main_v34 val_main_v31 val_main_v30 val_main_v29 val_main_v28 val_main_v27 val_main_v26 val_main_v25 val_main_v22 val_main_v21 val_main_v20 val_main_v19
  generalize val_main_v33 (F := Ideal) x sc sh w = g at hg ⊢
  generalize val_main_v18 (F := Ideal) x sc sh w = p at hg ⊢
  unfold columns
  by_cases h0 : c.val < 3072
  · rw [if_pos (by omega), packed_0 _ _ (by omega)]
    refine (piece3 _ _ b l c 0 0 3072 (by simp) _ rfl rfl (by omega) (by omega)).trans ?_
    pointwise
  by_cases h1 : c.val < 4608
  · rw [if_pos (by omega), packed_1 _ _ (by omega) (by omega)]
    refine (piece3 _ _ b l c 1 3072 1536 (by simp) _ rfl rfl (by omega) (by omega)).trans ?_
    pointwise
  by_cases h2 : c.val < 5120
  · rw [if_pos (by omega), packed_2 _ _ (by omega) (by omega)]
    refine (piece3 _ _ b l c 2 4608 512 (by simp) _ rfl rfl (by omega) (by omega)).trans ?_
    pointwise
  by_cases h3 : c.val < 5632
  · rw [if_pos (by omega), packed_3 _ _ (by omega) (by omega)]
    refine (piece3 _ _ b l c 3 5120 512 (by simp) _ rfl rfl (by omega) (by omega)).trans ?_
    pointwise
  by_cases h4 : c.val < 6144
  · rw [if_pos (by omega), packed_4 _ _ (by omega) (by omega)]
    refine (piece3 _ _ b l c 4 5632 512 (by simp) _ rfl rfl (by omega) (by omega)).trans ?_
    pointwise
  by_cases h5 : c.val < 6656
  · rw [if_pos (by omega), packed_5 _ _ (by omega) (by omega)]
    refine (piece3 _ _ b l c 5 6144 512 (by simp) _ rfl rfl (by omega) (by omega)).trans ?_
    pointwise
  by_cases h6 : c.val < 7168
  · rw [if_pos (by omega), packed_6 _ _ (by omega) (by omega)]
    refine (piece3 _ _ b l c 6 6656 512 (by simp) _ rfl rfl (by omega) (by omega)).trans ?_
    pointwise
  by_cases h7 : c.val < 7424
  · rw [if_pos (by omega), packed_7 _ _ (by omega) (by omega)]
    refine (piece3 _ _ b l c 7 7168 256 (by simp) _ rfl rfl (by omega) (by omega)).trans ?_
    pointwise
  by_cases h8 : c.val < 7680
  · rw [if_pos (by omega), packed_8 _ _ (by omega) (by omega)]
    refine (piece3 _ _ b l c 8 7424 256 (by simp) _ rfl rfl (by omega) (by omega)).trans ?_
    pointwise
  by_cases h9 : c.val < 7808
  · rw [if_pos (by omega), packed_9 _ _ (by omega) (by omega)]
    refine (piece3 _ _ b l c 9 7680 128 (by simp) _ rfl rfl (by omega) (by omega)).trans ?_
    pointwise
  by_cases h10 : c.val < 7936
  · rw [if_pos (by omega), packed_10 _ _ (by omega) (by omega)]
    refine (piece3 _ _ b l c 10 7808 128 (by simp) _ rfl rfl (by omega) (by omega)).trans ?_
    pointwise
  by_cases h11 : c.val < 8064
  · rw [if_pos h11]
    refine (piece3 _ _ b l c 11 7936 128 (by simp) _ rfl rfl (by omega) (by omega)).trans ?_
    rw [hg]
    exact congrArg _ (by show 7936 + (c.val - 7936) = c.val; omega)
  · rw [if_neg h11]
    refine (piece3 _ _ b l c 12 8064 128 (by simp) _ rfl rfl (by omega) (by omega)).trans ?_
    have e : 7936 + (c.val - 8064) = c.val - 128 := by omega
    rw [← e, ← hg ⟨c.val - 8064, by omega⟩]
    rfl

end Cert.Reference3Ideal.Point

end
-- ==== Proof.ProjKer.lean ====
/-
  The projection call's packed weight and its body read at an index, and its result array.
-/
module

public import proofs.«01_k».proof.Proof.ProjRef
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Point

open Cert.Kernel3Ideal Cert.Kernel3Ideal.Gen Cert.Proj
open Idealize.ShloMosaic Idealize.ShloMosaic.TcCoe

/-- The weight's columns of the low-rank gates, side by side. -/
def pairW (w : FVec Ideal S1024x7968 .f32) : FVec Ideal S1024x32 .f32 :=
  concatenate S1024x32 1 [⟨S1024x16, (extractStridedSlice S1024x16 ![0, 1536] w slices_S1024x7968_S1024x16_0_1536 : FVec Ideal S1024x16 .f32)⟩,
    ⟨S1024x16, (extractStridedSlice S1024x16 ![0, 1552] w slices_S1024x7968_S1024x16_0_1552 : FVec Ideal S1024x16 .f32)⟩] concatenates_S1024x16_S1024x16_S1024x32_d1

/-- The same padded with zeros to a whole lane tile. -/
def padW (w : FVec Ideal S1024x7968 .f32) : FVec Ideal S1024x128 .f32 :=
  pad S1024x128 ![0, 0] ![0, 96] ![0, 0] (pairW w) (sitofp .f32 (constantI S_ 32 0#32) : FVec Ideal S_ .f32) pads_S1024x32_S1024x128_000_0960 h_S_

/-- The packed weight before its cast. -/
def packF (w : FVec Ideal S1024x7968 .f32) : FVec Ideal S1024x8192 .f32 :=
  concatenate S1024x8192 1 [⟨S1024x3072, (extractStridedSlice S1024x3072 ![0, 4896] w slices_S1024x7968_S1024x3072_0_4896 : FVec Ideal S1024x3072 .f32)⟩,
      ⟨S1024x1536, (extractStridedSlice S1024x1536 ![0, 2848] w slices_S1024x7968_S1024x1536_0_2848 : FVec Ideal S1024x1536 .f32)⟩,
      ⟨S1024x512, (extractStridedSlice S1024x512 ![0, 512] w slices_S1024x7968_S1024x512_0_512 : FVec Ideal S1024x512 .f32)⟩,
      ⟨S1024x512, (extractStridedSlice S1024x512 ![0, 1024] w slices_S1024x7968_S1024x512_0_1024 : FVec Ideal S1024x512 .f32)⟩,
      ⟨S1024x512, (extractStridedSlice S1024x512 ![0, 1568] w slices_S1024x7968_S1024x512_0_1568 : FVec Ideal S1024x512 .f32)⟩,
      ⟨S1024x512, (extractStridedSlice S1024x512 ![0, 2336] w slices_S1024x7968_S1024x512_0_2336 : FVec Ideal S1024x512 .f32)⟩,
      ⟨S1024x512, (extractStridedSlice S1024x512 ![0, 4384] w slices_S1024x7968_S1024x512_0_4384 : FVec Ideal S1024x512 .f32)⟩,
      ⟨S1024x256, (extractStridedSlice S1024x256 ![0, 0] w slices_S1024x7968_S1024x256_0_0 : FVec Ideal S1024x256 .f32)⟩,
      ⟨S1024x256, (extractStridedSlice S1024x256 ![0, 256] w slices_S1024x7968_S1024x256_0_256 : FVec Ideal S1024x256 .f32)⟩,
      ⟨S1024x128, (extractStridedSlice S1024x128 ![0, 2080] w slices_S1024x7968_S1024x128_0_2080 : FVec Ideal S1024x128 .f32)⟩,
      ⟨S1024x128, (extractStridedSlice S1024x128 ![0, 2208] w slices_S1024x7968_S1024x128_0_2208 : FVec Ideal S1024x128 .f32)⟩,
      ⟨S1024x128, padW w⟩,
      ⟨S1024x128, (broadcastInDim S1024x128 ![] bcast_S_S1024x128 (constant S_ .f32 0x00000000#32) : FVec Ideal S1024x128 .f32)⟩]
    concatenates_S1024x3072_S1024x1536_S1024x512_S1024x512_S1024x512_S1024x512_S1024x512_S1024x256_S1024x256_S1024x128_S1024x128_S1024x128_S1024x128_S1024x8192_d1

/-- The packed weight. -/
def packW (w : FVec Ideal S1024x7968 .f32) : FVec Ideal S1024x8192 .bf16 := truncf .bf16 (packF w) bitsLt_bf16_f32

variable (w : FVec Ideal S1024x7968 .f32)

/-- The gates' columns at an index. -/
theorem pairW_at (r : Fin 1024) (d : Fin 32) : pairW w (ix2 r d) = packed (fun n => w (ix2 r n)) (7936 + d.val) := by
  have hd := d.isLt
  unfold pairW
  by_cases h0 : d.val < 16
  · rw [packed_11 _ _ (by omega) (by omega)]
    refine (piece2 _ _ r d 0 0 16 (by simp) _ rfl rfl (by omega) (by omega)).trans ?_
    pointwise
    blk_ext
  · rw [packed_12 _ _ (by omega) (by omega)]
    refine (piece2 _ _ r d 1 16 16 (by simp) _ rfl rfl (by omega) (by omega)).trans ?_
    pointwise
    blk_ext

/-- The padded gates' columns at an index. -/
theorem padW_at (r : Fin 1024) (d : Fin 128) : padW w (ix2 r d) = packed (fun n => w (ix2 r n)) (7936 + d.val) := by
  have hd := d.isLt
  have hp := pairW_at w r
  unfold padW
  generalize pairW w = g at hp ⊢
  by_cases h0 : d.val < 32
  · rw [← hp ⟨d.val, h0⟩]
    pointwise
    exact dif_pos h0
  · rw [packed_zero _ _ (by omega)]
    pointwise
    refine (dif_neg h0).trans ?_
    show (((0#32 : BitVec 32).toInt : ℝ) : EReal) = 0
    simp

set_option maxHeartbeats 2000000 in
/-- The packed weight at an index. -/
theorem packW_at (r : Fin 1024) (c : Fin 8192) : packW w (ix2 r c) = packed (fun n => w (ix2 r n)) c.val := by
  have hc := c.isLt
  have hp := padW_at w r
  refine (show packW w (ix2 r c) = packF w (ix2 r c) from rfl).trans ?_
  unfold packF
  generalize padW w = g at hp ⊢
  by_cases h0 : c.val < 3072
  · rw [packed_0 _ _ (by omega)]
    refine (piece2 _ _ r c 0 0 3072 (by simp) _ rfl rfl (by omega) (by omega)).trans ?_
    pointwise
  by_cases h1 : c.val < 4608
  · rw [packed_1 _ _ (by omega) (by omega)]
    refine (piece2 _ _ r c 1 3072 1536 (by simp) _ rfl rfl (by omega) (by omega)).trans ?_
    pointwise
  by_cases h2 : c.val < 5120
  · rw [packed_2 _ _ (by omega) (by omega)]
    refine (piece2 _ _ r c 2 4608 512 (by simp) _ rfl rfl (by omega) (by omega)).trans ?_
    pointwise
  by_cases h3 : c.val < 5632
  · rw [packed_3 _ _ (by omega) (by omega)]
    refine (piece2 _ _ r c 3 5120 512 (by simp) _ rfl rfl (by omega) (by omega)).trans ?_
    pointwise
  by_cases h4 : c.val < 6144
  · rw [packed_4 _ _ (by omega) (by omega)]
    refine (piece2 _ _ r c 4 5632 512 (by simp) _ rfl rfl (by omega) (by omega)).trans ?_
    pointwise
  by_cases h5 : c.val < 6656
  · rw [packed_5 _ _ (by omega) (by omega)]
    refine (piece2 _ _ r c 5 6144 512 (by simp) _ rfl rfl (by omega) (by omega)).trans ?_
    pointwise
  by_cases h6 : c.val < 7168
  · rw [packed_6 _ _ (by omega) (by omega)]
    refine (piece2 _ _ r c 6 6656 512 (by simp) _ rfl rfl (by omega) (by omega)).trans ?_
    pointwise
  by_cases h7 : c.val < 7424
  · rw [packed_7 _ _ (by omega) (by omega)]
    refine (piece2 _ _ r c 7 7168 256 (by simp) _ rfl rfl (by omega) (by omega)).trans ?_
    pointwise
  by_cases h8 : c.val < 7680
  · rw [packed_8 _ _ (by omega) (by omega)]
    refine (piece2 _ _ r c 8 7424 256 (by simp) _ rfl rfl (by omega) (by omega)).trans ?_
    pointwise
  by_cases h9 : c.val < 7808
  · rw [packed_9 _ _ (by omega) (by omega)]
    refine (piece2 _ _ r c 9 7680 128 (by simp) _ rfl rfl (by omega) (by omega)).trans ?_
    pointwise
  by_cases h10 : c.val < 7936
  · rw [packed_10 _ _ (by omega) (by omega)]
    refine (piece2 _ _ r c 10 7808 128 (by simp) _ rfl rfl (by omega) (by omega)).trans ?_
    pointwise
  by_cases h11 : c.val < 8064
  · refine (piece2 _ _ r c 11 7936 128 (by simp) _ rfl rfl (by omega) (by omega)).trans ?_
    rw [hp]
    exact congrArg _ (by show 7936 + (c.val - 7936) = c.val; omega)
  · rw [packed_zero _ _ (by omega)]
    refine (piece2 _ _ r c 12 8064 128 (by simp) _ rfl rfl (by omega) (by omega)).trans ?_
    pointwise

section Body

variable (x : Vec Ideal S1x1024x1024 .f32) (sc sh : Vec Ideal S1x1x1024 .f32) (u : Vec Ideal S1024x2048 .bf16) (r : Fin 1024)

/-- The product at an index. -/
theorem prod_at (d : Fin 2048) :
    k0_pay1 x sc sh u (ix2 r d) = ∑ k : Fin 1024, hidRow (fun k => x (ix3 0 r k)) (fun k => sc (ix3 0 0 k)) (fun k => sh (ix3 0 0 k)) k * u (ix2 k d) := by
  unfold hidRow Cert.Merge.unit
  pointwise [k0_pay1]

/-- The stored block at an index: the product. -/
theorem high_at (d : Fin 2048) : k0_pay3 x sc sh u (ix3 0 r d) = k0_pay1 x sc sh u (ix2 r d) := by
  unfold k0_pay3 k0_pay2
  generalize k0_pay1 x sc sh u = p
  pointwise

/-- The stored tile at an index: what the cast of the product drops. -/
theorem low_at (d : Fin 128) :
    k0_pay4 x sc sh u (ix3 0 r d) = k0_pay1 x sc sh u (ix2 r ⟨1792 + d.val, by omega⟩) - k0_pay1 x sc sh u (ix2 r ⟨1792 + d.val, by omega⟩) := by
  unfold k0_pay4 k0_pay2
  generalize k0_pay1 x sc sh u = p
  pointwise

end Body

variable (m : (ℓ : Loc nD τ sig) → Buf (Elt Ideal) ℓ)

open Idealize.ShloMosaic.Pipeline (Dat)

/-- The windows' block indices at every point. -/
theorem idx : ∀ t : Fin cfg0.N, (grid0.coords t 0).val < 4 ∧ (grid0.coords t 1).val < 2 ∧ (grid0.coords t 2).val < 16
    ∧ (96 ≤ t.val ↔ (grid0.coords t 0).val = 3)
    ∧ win0_0.index t = ![(grid0.coords t 1).val, (grid0.coords t 2).val, 0]
    ∧ win0_1.index t = ![(grid0.coords t 1).val, 0, 0]
    ∧ win0_2.index t = ![(grid0.coords t 1).val, 0, 0]
    ∧ win0_3.index t = ![0, (grid0.coords t 0).val]
    ∧ win0_4.index t = ![(grid0.coords t 1).val, (grid0.coords t 2).val, (grid0.coords t 0).val] :=
  (by decide +kernel : ∀ t : Fin grid0.N, _)

/-- The column block of a point. -/
abbrev pj (t : Fin cfg0.N) : Fin 4 := ⟨(grid0.coords t 0).val, (idx t).1⟩
/-- The batch entry of a point. -/
abbrev pb (t : Fin cfg0.N) : Fin 2 := ⟨(grid0.coords t 1).val, (idx t).2.1⟩
/-- The row block of a point. -/
abbrev pt (t : Fin cfg0.N) : Fin 16 := ⟨(grid0.coords t 2).val, (idx t).2.2.1⟩
/-- A row of a point's block, in the array. -/
abbrev row (t : Fin cfg0.N) (r : Fin 1024) : Fin 16384 := ⟨1024 * (pt t).val + r.val, by omega⟩
/-- A column of a point's block, in the array. -/
abbrev col (t : Fin cfg0.N) (d : Fin 2048) : Fin 8192 := ⟨2048 * (pj t).val + d.val, by omega⟩

section Blocks

variable (c : Dev nD) (t : Fin cfg0.N) (r : Fin 1024)

/-- A block of the stream. -/
theorem blk0 (k : Fin 1024) : (iblk m c 0 t : Vec Ideal S1x1024x1024 .f32) (ix3 0 r k) = (m ((c : Thread nD τ).loc main_arg0) : FVec Ideal S2x16384x1024 .f32) (ix3 (pb t) (row t r) k) := by
  blk_ext [iblk, V, idx t]

/-- The scale, as the region finds it. -/
theorem V_sc : V m c main_v0 = broadcastInDim S2x1x1024 ![0, 2] bcast_S2x1024_S2x1x1024_0_2 (m ((c : Thread nD τ).loc main_arg1)) := by
  entry_read
  rfl

/-- The shift, as the region finds it. -/
theorem V_sh : V m c main_v1 = broadcastInDim S2x1x1024 ![0, 2] bcast_S2x1024_S2x1x1024_0_2 (m ((c : Thread nD τ).loc main_arg2)) := by
  entry_read
  rfl

/-- The weight, as the region finds it. -/
theorem V_w : V m c main_v19 = packW (m ((c : Thread nD τ).loc main_arg3)) := by
  entry_read
  rfl

/-- A row given a middle axis of one. -/
theorem lift_at (g : FVec Ideal S2x1024 .f32) (b : Fin 2) (k : Fin 1024) :
    broadcastInDim S2x1x1024 ![0, 2] bcast_S2x1024_S2x1x1024_0_2 g (ix3 b 0 k) = g (ix2 b k) := by
  pointwise

/-- The block of the scale. -/
theorem blk1 (k : Fin 1024) : (iblk m c 1 t : Vec Ideal S1x1x1024 .f32) (ix3 0 0 k) = (m ((c : Thread nD τ).loc main_arg1) : FVec Ideal S2x1024 .f32) (ix2 (pb t) k) := by
  refine Eq.trans ?_ (lift_at _ _ _)
  rw [← V_sc]
  blk_ext [iblk, idx t]

/-- The block of the shift. -/
theorem blk2 (k : Fin 1024) : (iblk m c 2 t : Vec Ideal S1x1x1024 .f32) (ix3 0 0 k) = (m ((c : Thread nD τ).loc main_arg2) : FVec Ideal S2x1024 .f32) (ix2 (pb t) k) := by
  refine Eq.trans ?_ (lift_at _ _ _)
  rw [← V_sh]
  blk_ext [iblk, idx t]

/-- The block of the weight. -/
theorem blk3 (k : Fin 1024) (d : Fin 2048) :
    (iblk m c 3 t : Vec Ideal S1024x2048 .bf16) (ix2 k d) = packed (fun n => (m ((c : Thread nD τ).loc main_arg3) : FVec Ideal S1024x7968 .f32) (ix2 k n)) (2048 * (pj t).val + d.val) := by
  refine Eq.trans ?_ (packW_at _ k (col t d))
  rw [← V_w]
  blk_ext [iblk, idx t]

end Blocks

/-- The reference's product over the kernel's arguments. -/
abbrev refP (c : Dev nD) : FVec Ideal Cert.Reference3Ideal.S2x16384x7968 .f32 :=
  Cert.Reference3Ideal.Read.val_main_v18 (F := Ideal) (m ((c : Thread nD τ).loc main_arg0)) (m ((c : Thread nD τ).loc main_arg1)) (m ((c : Thread nD τ).loc main_arg2)) (m ((c : Thread nD τ).loc main_arg3))

/-- The reference's result over the kernel's arguments. -/
abbrev refV (c : Dev nD) : FVec Ideal S2x16384x8192 .bf16 :=
  Cert.Reference3Ideal.Read.val_main_v38 (F := Ideal) (m ((c : Thread nD τ).loc main_arg0)) (m ((c : Thread nD τ).loc main_arg1)) (m ((c : Thread nD τ).loc main_arg2)) (m ((c : Thread nD τ).loc main_arg3))

/-- A point's product is the reference's, packed. -/
theorem prod_ref (c : Dev nD) (t : Fin cfg0.N) (r : Fin 1024) (d : Fin 2048) :
    k0_pay1 (iblk m c 0 t) (iblk m c 1 t) (iblk m c 2 t) (iblk m c 3 t) (ix2 r d)
      = packed (fun n => refP m c (ix3 (pb t) (row t r) n)) (2048 * (pj t).val + d.val) := by
  refine (prod_at _ _ _ _ r d).trans ?_
  simp only [blk0, blk1, blk2, blk3]
  rw [sum_packed]
  refine congrArg (fun f => packed f _) (funext fun n => ?_)
  exact (Cert.Reference3Ideal.Point.prod_at _ _ _ _ (pb t) (row t r) n).symm

/-- THE POINT: the stored block is the reference's entries, but for the last tile of the last column block. -/
theorem point_high (c : Dev nD) (t : Fin cfg0.N) (r : Fin 1024) (d : Fin 2048) (h : 2048 * (pj t).val + d.val < 8064) :
    k0_pay3 (iblk m c 0 t) (iblk m c 1 t) (iblk m c 2 t) (iblk m c 3 t) (ix3 0 r d) = refV m c (ix3 (pb t) (row t r) (col t d)) := by
  rw [refV, Cert.Reference3Ideal.Point.cols_at, columns, if_pos h]
  exact (high_at _ _ _ _ r d).trans (prod_ref m c t r d)

/-- In the last tile of the last column block: the stored tile. -/
theorem point_low (c : Dev nD) (t : Fin cfg0.N) (h : (pj t).val = 3) (r : Fin 1024) (d : Fin 128) :
    k0_pay4 (iblk m c 0 t) (iblk m c 1 t) (iblk m c 2 t) (iblk m c 3 t) (ix3 0 r d) = refV m c (ix3 (pb t) (row t r) (col t ⟨1920 + d.val, by omega⟩)) := by
  have hd := d.isLt
  rw [refV, Cert.Reference3Ideal.Point.cols_at, columns, if_neg (by show ¬ 2048 * (pj t).val + (1920 + d.val) < 8064; omega)]
  refine (low_at _ _ _ _ r d).trans ?_
  rw [prod_ref]
  have e : 2048 * (pj t).val + (1920 + d.val) - 128 = 2048 * (pj t).val + (1792 + d.val) := by omega
  exact congrArg (fun n => packed (fun k => refP m c (ix3 (pb t) (row t r) k)) n - packed (fun k => refP m c (ix3 (pb t) (row t r) k)) n) e.symm

end Cert.Kernel3Ideal.Point

end
-- ==== Proof.ProjFin.lean ====
/-
  The projection call's result array.
-/
module

public import proofs.«01_k».proof.Proof.ProjKer

@[expose] public section

set_option maxRecDepth 16384

noncomputable section

namespace Cert.Kernel3Ideal.Point

open Cert.Kernel3Ideal Cert.Kernel3Ideal.Gen Cert.Proj
open Idealize.ShloMosaic Idealize.ShloMosaic.TcCoe

/-- A block stored whole, then its last lane tile stored over it, read inside the tile. -/
theorem over_in (hi : Vec Ideal S1x1024x2048 .bf16) (lo : Vec Ideal S1x1024x128 .bf16) (r : Fin 1024) (d : Fin 128) :
    View.canon (Val := Elt Ideal) (s := S1x1024x2048) (e := .bf16)
      [⟨Rect.unit ![0, 0, 1920] ![1, 1024, 128] inb_S1x1024x2048_S1x1024x128_0_0_1920, lo⟩,
        ⟨Rect.unit ![0, 0, 0] ![1, 1024, 2048] inb_S1x1024x2048_S1x1024x2048_0_0_0, hi⟩] (ix3 0 r ⟨1920 + d.val, by omega⟩)
      = lo (ix3 0 r d) := by
  refine Eq.trans (congrArg _ ?_) (View.canon_cons_emb (Val := Elt Ideal) (s := S1x1024x2048) (e := .bf16)
    (Rect.unit ![0, 0, 1920] ![1, 1024, 128] inb_S1x1024x2048_S1x1024x128_0_0_1920) lo _ (ix3 0 r d))
  funext a
  refine Fin.ext ?_
  rw [Rect.emb_apply]
  fin_cases a
  · rfl
  · show r.val = 0 + 1 * r.val
    omega
  · show 1920 + d.val = 1920 + 1 * d.val
    omega

/-- The same read before the tile. -/
theorem over_out (hi : Vec Ideal S1x1024x2048 .bf16) (lo : Vec Ideal S1x1024x128 .bf16) (r : Fin 1024) (d : Fin 2048) (h : d.val < 1920) :
    View.canon (Val := Elt Ideal) (s := S1x1024x2048) (e := .bf16)
      [⟨Rect.unit ![0, 0, 1920] ![1, 1024, 128] inb_S1x1024x2048_S1x1024x128_0_0_1920, lo⟩,
        ⟨Rect.unit ![0, 0, 0] ![1, 1024, 2048] inb_S1x1024x2048_S1x1024x2048_0_0_0, hi⟩] (ix3 0 r d)
      = hi (ix3 0 r d) := by
  refine (View.canon_cons_of_not_mem _ _ ?_).trans (congrFun (View.canon_cons_unit_lit (Val := Elt Ideal) (S := S1x1024x2048) (e := .bf16)
    inb_S1x1024x2048_S1x1024x2048_0_0_0 hi [] (by decide)) _)
  intro hm
  have h2 : 1920 ≤ d.val := (Rect.mem_set_unit (inb := inb_S1x1024x2048_S1x1024x128_0_0_1920).mp hm 2).1
  omega

variable (m : (ℓ : Loc nD τ sig) → Buf (Elt Ideal) ℓ)

open Idealize.ShloMosaic.Pipeline (Dat)

/-- What a point leaves in the result's buffer: the reference's entries. -/
theorem left_at (c : Dev nD) (t : Fin cfg0.N) (r : Fin 1024) (d : Fin 2048) :
    outsAt0 m c t.val t.isLt (ix3 0 r d) = refV m c (ix3 (pb t) (row t r) (col t d)) := by
  have hd := d.isLt
  by_cases h0 : 96 ≤ t.val
  · have hj : (pj t).val = 3 := (idx t).2.2.2.1.mp h0
    rw [outsAt0_B m c t h0]
    frame_out
    by_cases h : d.val < 1920
    · exact (over_out _ _ r d h).trans (point_high m c t r d (by omega))
    · have e : d = ⟨1920 + (d.val - 1920), by omega⟩ := Fin.ext (by show d.val = 1920 + (d.val - 1920); omega)
      rw [e]
      exact (over_in _ _ r ⟨d.val - 1920, by omega⟩).trans (point_low m c t hj r ⟨d.val - 1920, by omega⟩)
  · have hj : (pj t).val ≠ 3 := fun hj => h0 ((idx t).2.2.2.1.mpr hj)
    rw [outsAt0_A m c t h0]
    frame_out
    exact point_high m c t r d (by omega)

/-- The result array after the run. -/
theorem final (c : Dev nD) : (dats m 0 c).arrAt 4 (cfgs 0).N = refV m c := by
  refine (dats m 0 c).arrAt_eq_of_covers 4 _ (by decide +kernel) fun t _ y => ?_
  blk_simp
  rw [after0_4]
  have hy : (y : S1x1024x2048.Idx) = ix3 0 (y 1) (y 2) := by
    funext a
    fin_cases a
    · exact Fin.ext (by show (y 0).val = 0; have : (y 0).val < 1 := (y 0).isLt; omega)
    · rfl
    · rfl
  refine (congrArg _ hy).trans ((left_at m c t (y 1) (y 2)).trans (congrArg (refV m c) ?_))
  funext a
  refine Fin.ext ?_
  fin_cases a
  · have h0 : (y 0).val < 1 := (y 0).isLt
    blk_simp [idx t]
    rfl
  · blk_simp [idx t]
    show 1024 * (grid0.coords t 2).val + (y 1).val = (grid0.coords t 2).val * 1024 + (y 1).val
    omega
  · blk_simp [idx t]
    show 2048 * (grid0.coords t 0).val + (y 2).val = (grid0.coords t 0).val * 2048 + (y 2).val
    omega

end Cert.Kernel3Ideal.Point

end
-- ==== Proof.ProjClaim.lean ====
/-
  The claims about the projection call: runs of the kernel and of its reference, and equal results at the reals.
-/
module

public import proofs.«01_k».proof.Defs
public import proofs.«01_k».proof.Proof.ProjFin
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import Idealize.ShloMosaic.Lib.Quiescent
public import Idealize.ShloMosaic.Lib.Claim

@[expose] public section

set_option maxRecDepth 16384

noncomputable section

namespace Cert.Proj.Claims

open Idealize.ShloMosaic Idealize.SL.Sem

/-- The projection kernel at the machine's numbers. -/
theorem frame_kernel : Cert.quiescent_Kernel3 := fun m ρ _ => Cert.Kernel3.Gen.frame (F := Bits) m ρ

/-- The projection kernel at the reals. -/
theorem frame_kernelIdeal : Cert.quiescent_Kernel3Ideal := fun m ρ _ => Cert.Kernel3Ideal.Gen.frame (F := Ideal) m ρ

/-- The projection's reference at the reals: host operations, on a machine that declares no counter. -/
theorem frame_reference : Cert.quiescent_Reference3Ideal := fun m ρ _ =>
  (θ_run Cert.Reference3Ideal.defs _ _).mono (fun r h => ⟨fun c => (h c).2, sem_eq_zero_of_no_sems rfl _⟩)
    (Cert.Reference3Ideal.Value.run (F := Ideal) m ρ)

/-- THE PROJECTION: kernel and reference end with equal results. -/
theorem projection : Cert.algebraic_Kernel3Ideal_Reference3Ideal := by
  pair_intro
  · run_from Cert.Kernel3Ideal.Gen.run_main m g
    · exact Cert.Kernel3Ideal.Gen.V_main_arg1 m c
    · exact Cert.Kernel3Ideal.Gen.V_main_arg2 m c
    · exact Cert.Kernel3Ideal.Gen.V_main_arg3 m c
  · refine (θ_run Cert.Reference3Ideal.defs _ _).mono (fun r hr c => ⟨(hr c).1.trans ?_, (hr c).2⟩)
      (Cert.Reference3Ideal.Value.run (F := Ideal) m' g')
    rw [Cert.Reference3Ideal.Read.val_main_v38_eq, Cert.Kernel3Ideal.Point.final m c]
    obtain ⟨h0, h1, h2, h3⟩ := hagree c
    rw [h0, h1, h2, h3]

end Cert.Proj.Claims

end
-- ==== Proof.lean ====
/-
  The claims about the attention call: the kernel runs and leaves its arguments and every counter as they were, at the
  machine's own numbers and at the reals, and so does the reference; and at the reals the two results are equal.
  The same of the merge call and of the projection call, whose claims are in modules of their own.
-/
module

public import proofs.«01_k».proof.Defs
public import proofs.«01_k».proof.Proof.AttnFrame
public import proofs.«01_k».proof.Proof.KerPoint
public import proofs.«01_k».proof.Proof.MergeClaim
public import proofs.«01_k».proof.Proof.ProjClaim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Lib.Quiescent

@[expose] public section

noncomputable section

namespace Cert.Proof

open Idealize.ShloMosaic Idealize.SL.Sem

section

variable [Cert.Kernel.Facts] [Cert.KernelIdeal.Facts]

set_option maxRecDepth 100000

/-- The two prints' body tables are one: entry by entry. -/
theorem defs₀_eq : Cert.Kernel.defs₀ (F := Bits) = Cert.KernelIdeal.defs₀ (F := Bits) := by
  funext pr ℓ a
  cases pr with
  | tc =>
    match ℓ, a with
    | 0, (t, s) => with_unfolding_all rfl
  | scScalar _ => rfl
  | scVector _ _ => rfl

set_option backward.isDefEq.respectTransparency false in
/-- So are their whole tables. -/
theorem defs_eq : Cert.Kernel.defs (F := Bits) = Cert.KernelIdeal.defs (F := Bits) :=
  congrArg (Pipeline.defs (Cert.KernelIdeal.pcfgs (F := Bits))) defs₀_eq

end

set_option maxRecDepth 100000 in
set_option backward.isDefEq.respectTransparency false in
/-- The kernel at the machine's numbers: the one run, which is over any numbers. -/
theorem frame_kernel : Cert.quiescent_Kernel := fun m ρ _ => by
  have h := Cert.KernelIdeal.Body.frame_kernel (F := Bits) m ρ
  rw [← defs_eq] at h
  exact h

/-- The kernel at the reals: the same run. -/
theorem frame_kernelIdeal : Cert.quiescent_KernelIdeal := fun m ρ _ => Cert.KernelIdeal.Body.frame_kernel (F := Ideal) m ρ

/-- The reference at the reals: a run of host operations, on a machine that declares no counter. -/
theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

/-- The side conditions of the precondition's operations: a scalar broadcasts to any shape. -/
theorem preFacts : Cert.Pre_finite_scores.Facts where
  bcast_S_S2x2048x16384 := by decide
  bcast_S_S2x2x16384x256 := by decide
  bcast_S_S2x2x256x256 := by decide

/-- The precondition read element by element: queries and keys are real numbers. -/
theorem pre_real (m : (ℓ : Loc Cert.KernelIdeal.nD Cert.KernelIdeal.τ Cert.KernelIdeal.sig) → Buf (Elt Ideal) ℓ)
    (h : Cert.Pre_KernelIdeal_finite_scores (hPre_finite_scores := preFacts) m) (c : Dev Cert.KernelIdeal.nD) :
    (∀ i, ∃ x : ℝ, (m ((c.tc : Thread Cert.KernelIdeal.nD Cert.KernelIdeal.τ).loc Cert.KernelIdeal.main_arg0) : FVec Ideal Cert.KernelIdeal.S2x2048x16384 .f32) i = (x : EReal))
      ∧ ∀ i, ∃ x : ℝ, Cert.KernelIdeal.Exact.keys m c i = (x : EReal) :=
  ⟨fun i => Cert.KernelIdeal.Exact.real_of_abs _ (congrFun (h c).1 i),
    Cert.KernelIdeal.Exact.keys_real m c (fun i => Cert.KernelIdeal.Exact.real_of_abs _ (congrFun (h c).2.1 i))
      (fun i => Cert.KernelIdeal.Exact.real_of_abs _ (congrFun (h c).2.2 i))⟩

/-- The kernel's result at the reals, under the precondition. -/
theorem kernel_value (m : (ℓ : Loc Cert.KernelIdeal.nD Cert.KernelIdeal.τ Cert.KernelIdeal.sig) → Buf (Elt Ideal) ℓ) (g : Dev Cert.KernelIdeal.nD → PrngReg)
    (h : Cert.Pre_KernelIdeal_finite_scores (hPre_finite_scores := preFacts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5) = Cert.KernelIdeal.Exact.refV m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r hr c => ⟨((hr.1.1 c).1 4).trans (Cert.KernelIdeal.Exact.final m c (pre_real m h c).1 (pre_real m h c).2), hr.2.1 c⟩)
    (θ_run_and (Cert.KernelIdeal.Exact.xrun m g) (Cert.KernelIdeal.Body.frame_kernel (F := Ideal) m g))

/-- THE ATTENTION: kernel and reference end with equal results. -/
theorem attention : Cert.algebraic_KernelIdeal_ReferenceIdeal_pre_finite_scores (hPre_finite_scores := preFacts) := fun m g m' g' h ha =>
  ⟨fun c => Cert.KernelIdeal.Exact.refV m c, kernel_value m g h,
    (θ_run Cert.ReferenceIdeal.defs _ _).mono (fun r hr c => ⟨(hr c).1.trans (by
        rw [Cert.ReferenceIdeal.Att.res_eq, (ha c).1, (ha c).2.1, (ha c).2.2.1, (ha c).2.2.2.1, (ha c).2.2.2.2.1, (ha c).2.2.2.2.2]), (hr c).2⟩)
      (Cert.ReferenceIdeal.Value.run (F := Ideal) m' g')⟩

/-- The whole certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, preFacts,
  frame_kernel, frame_kernelIdeal, fun m ρ _ => frame_kernelIdeal m ρ trivial, frame_reference, fun m ρ _ => frame_reference m ρ trivial,
  Cert.Merge.Claims.frame_kernel, Cert.Merge.Claims.frame_kernelIdeal, Cert.Merge.Claims.frame_reference,
  Cert.Proj.Claims.frame_kernel, Cert.Proj.Claims.frame_kernelIdeal, Cert.Proj.Claims.frame_reference,
  trivial, attention, trivial, Cert.Merge.Claims.merge, trivial, Cert.Proj.Claims.projection⟩

end Cert.Proof

end
